-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 1024]⟩ ⟨2, ![2048, 1024]⟩ (Layout.meshBlock [2, 2, 2] ![[2], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 4096]⟩ ⟨2, ![2048, 4096]⟩ (Layout.meshBlock [2, 2, 2] ![[2], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 4096]⟩ ⟨2, ![1024, 4096]⟩ (Layout.meshBlock [2, 2, 2] ![[2], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x1024 : Shape := ⟨2, ![1024, 1024]⟩
abbrev S1024x4096 : Shape := ⟨2, ![1024, 4096]⟩
abbrev S512x4096 : Shape := ⟨2, ![512, 4096]⟩
abbrev S512x1024 : Shape := ⟨2, ![512, 1024]⟩
abbrev S8 : Shape := ⟨1, ![8]⟩
abbrev S_ : Shape := ⟨0, ![]⟩
abbrev S1024x128 : Shape := ⟨2, ![1024, 128]⟩
abbrev S1 : Shape := ⟨1, ![1]⟩
abbrev S512x128 : Shape := ⟨2, ![512, 128]⟩
abbrev S1024x256 : Shape := ⟨2, ![1024, 256]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S1024x4096, .f32⟩
  | .hbm, ⟨2, _⟩ => ⟨S512x4096, .f32⟩
  | .local _ .vmem, ⟨0, _⟩ => ⟨S1024x1024, .f32⟩
  | .local _ .vmem, ⟨1, _⟩ => ⟨S1024x4096, .f32⟩
  | .local _ .vmem, ⟨2, _⟩ => ⟨S512x4096, .f32⟩
  | .local _ .vmem, ⟨3, _⟩ => ⟨S1024x1024, .f32⟩
  | .local _ .vmem, ⟨4, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 2 → Bool
  | ⟨0, _⟩ => true
  | ⟨1, _⟩ => false
  | _ => false

abbrev dmaSemScoped : Fin 83 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | _ => false

abbrev sig : RefSig :=
  (ofTc nBuf bufTy 2 83 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 1

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_17 : BitVec 32 := 4#32
  let v28 : BitVec 32 := Scalar.muli v2 c4_i32_17
  let v29 : BitVec 32 := Scalar.addi c0_i32 v28
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v30 : BitVec 32 := Scalar.muli v5 c2_i32_18
  let v31 : BitVec 32 := Scalar.addi v29 v30
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_11 v8
  let c1_i32_19 : BitVec 32 := 1#32
  let v32 : BitVec 32 := Scalar.muli v21 c1_i32_19
  let v33 : BitVec 32 := Scalar.addi v31 v32
  v33.toNat
def k0_dev2 (d0 : Dev nD) : Nat :=
  let c0_i32_22 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_12 v2
  let c4_i32_21 : BitVec 32 := 4#32
  let v34 : BitVec 32 := Scalar.muli v22 c4_i32_21
  let v35 : BitVec 32 := Scalar.addi c0_i32_22 v34
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v36 : BitVec 32 := Scalar.muli v5 c2_i32_23
  let v37 : BitVec 32 := Scalar.addi v35 v36
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_24 : BitVec 32 := 1#32
  let v38 : BitVec 32 := Scalar.muli v8 c1_i32_24
  let v39 : BitVec 32 := Scalar.addi v37 v38
  v39.toNat
def k0_dev3 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_26 : BitVec 32 := 4#32
  let v40 : BitVec 32 := Scalar.muli v2 c4_i32_26
  let v41 : BitVec 32 := Scalar.addi c0_i32_27 v40
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_13 v5
  let c2_i32_28 : BitVec 32 := 2#32
  let v42 : BitVec 32 := Scalar.muli v23 c2_i32_28
  let v43 : BitVec 32 := Scalar.addi v41 v42
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_29 : BitVec 32 := 1#32
  let v44 : BitVec 32 := Scalar.muli v8 c1_i32_29
  let v45 : BitVec 32 := Scalar.addi v43 v44
  v45.toNat
def k0_off1 (d0 : Dev nD) (c0_i32_31 : BitVec 32) : Fin 2 → Nat :=
  let c0_32 : Index := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c1024_i32 : BitVec 32 := 1024#32
  let v49 : BitVec 32 := Scalar.muli v10 c1024_i32
  let v50 : BitVec 32 := Scalar.addi v49 c0_i32_31
  let v51 : Index := Scalar.indexCast v50
  ![0, v51.toNat]
def k0_off2 (d0 : Dev nD) : Fin 2 → Nat :=
  let c512_i32_15 : BitVec 32 := 512#32
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_14 v8
  let v26 : BitVec 32 := Scalar.muli c512_i32_15 v25
  let c0_i32_43 : BitVec 32 := 0#32
  ![v26.toNat, 0]
def k0_dev4 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v58 : BitVec 32 := Scalar.muli v2 c4_i32_37
  let v59 : BitVec 32 := Scalar.addi c0_i32_38 v58
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_39 : BitVec 32 := 2#32
  let v60 : BitVec 32 := Scalar.muli v5 c2_i32_39
  let v61 : BitVec 32 := Scalar.addi v59 v60
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_11 v8
  let c1_i32_40 : BitVec 32 := 1#32
  let v62 : BitVec 32 := Scalar.muli v21 c1_i32_40
  let v63 : BitVec 32 := Scalar.addi v61 v62
  v63.toNat
def k0_off3 (d0 : Dev nD) : Fin 2 → Nat :=
  let c512_i32_15 : BitVec 32 := 512#32
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_14 v8
  let v26 : BitVec 32 := Scalar.muli c512_i32_15 v25
  let c128_i32_56 : BitVec 32 := 128#32
  ![v26.toNat, 128]
def k0_dev5 (d0 : Dev nD) : Nat :=
  let c0_i32_51 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_50 : BitVec 32 := 4#32
  let v79 : BitVec 32 := Scalar.muli v2 c4_i32_50
  let v80 : BitVec 32 := Scalar.addi c0_i32_51 v79
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_52 : BitVec 32 := 2#32
  let v81 : BitVec 32 := Scalar.muli v5 c2_i32_52
  let v82 : BitVec 32 := Scalar.addi v80 v81
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_11 v8
  let c1_i32_53 : BitVec 32 := 1#32
  let v83 : BitVec 32 := Scalar.muli v21 c1_i32_53
  let v84 : BitVec 32 := Scalar.addi v82 v83
  v84.toNat
def k0_off4 (d0 : Dev nD) : Fin 2 → Nat :=
  let c0_58 : Index := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c1024_i32_57 : BitVec 32 := 1024#32
  let v91 : BitVec 32 := Scalar.muli v10 c1024_i32_57
  let c256_i32 : BitVec 32 := 256#32
  let v92 : BitVec 32 := Scalar.addi v91 c256_i32
  let v93 : Index := Scalar.indexCast v92
  ![0, v93.toNat]
def k0_off5 (d0 : Dev nD) : Fin 2 → Nat :=
  let c512_i32_15 : BitVec 32 := 512#32
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_14 v8
  let v26 : BitVec 32 := Scalar.muli c512_i32_15 v25
  let c256_i32_69 : BitVec 32 := 256#32
  ![v26.toNat, 256]
def k0_dev6 (d0 : Dev nD) : Nat :=
  let c0_i32_64 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_63 : BitVec 32 := 4#32
  let v100 : BitVec 32 := Scalar.muli v2 c4_i32_63
  let v101 : BitVec 32 := Scalar.addi c0_i32_64 v100
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_65 : BitVec 32 := 2#32
  let v102 : BitVec 32 := Scalar.muli v5 c2_i32_65
  let v103 : BitVec 32 := Scalar.addi v101 v102
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_11 v8
  let c1_i32_66 : BitVec 32 := 1#32
  let v104 : BitVec 32 := Scalar.muli v21 c1_i32_66
  let v105 : BitVec 32 := Scalar.addi v103 v104
  v105.toNat
def k0_off6 (d0 : Dev nD) : Fin 2 → Nat :=
  let c512_i32_15 : BitVec 32 := 512#32
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_14 v8
  let v26 : BitVec 32 := Scalar.muli c512_i32_15 v25
  let c384_i32_77 : BitVec 32 := 384#32
  ![v26.toNat, 384]
def k0_dev7 (d0 : Dev nD) : Nat :=
  let c0_i32_73 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_72 : BitVec 32 := 4#32
  let v112 : BitVec 32 := Scalar.muli v2 c4_i32_72
  let v113 : BitVec 32 := Scalar.addi c0_i32_73 v112
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_74 : BitVec 32 := 2#32
  let v114 : BitVec 32 := Scalar.muli v5 c2_i32_74
  let v115 : BitVec 32 := Scalar.addi v113 v114
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_11 v8
  let c1_i32_75 : BitVec 32 := 1#32
  let v116 : BitVec 32 := Scalar.muli v21 c1_i32_75
  let v117 : BitVec 32 := Scalar.addi v115 v116
  v117.toNat
def k0_off7 (d0 : Dev nD) : Fin 2 → Nat :=
  let c0_80 : Index := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c1024_i32_78 : BitVec 32 := 1024#32
  let v124 : BitVec 32 := Scalar.muli v10 c1024_i32_78
  let c512_i32_79 : BitVec 32 := 512#32
  let v125 : BitVec 32 := Scalar.addi v124 c512_i32_79
  let v126 : Index := Scalar.indexCast v125
  ![0, v126.toNat]
def k0_off8 (d0 : Dev nD) : Fin 2 → Nat :=
  let c512_i32_15 : BitVec 32 := 512#32
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_14 v8
  let v26 : BitVec 32 := Scalar.muli c512_i32_15 v25
  let c512_i32_91 : BitVec 32 := 512#32
  ![v26.toNat, 512]
def k0_dev8 (d0 : Dev nD) : Nat :=
  let c0_i32_86 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_85 : BitVec 32 := 4#32
  let v133 : BitVec 32 := Scalar.muli v2 c4_i32_85
  let v134 : BitVec 32 := Scalar.addi c0_i32_86 v133
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_87 : BitVec 32 := 2#32
  let v135 : BitVec 32 := Scalar.muli v5 c2_i32_87
  let v136 : BitVec 32 := Scalar.addi v134 v135
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_11 v8
  let c1_i32_88 : BitVec 32 := 1#32
  let v137 : BitVec 32 := Scalar.muli v21 c1_i32_88
  let v138 : BitVec 32 := Scalar.addi v136 v137
  v138.toNat
def k0_off9 (d0 : Dev nD) : Fin 2 → Nat :=
  let c512_i32_15 : BitVec 32 := 512#32
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_14 v8
  let v26 : BitVec 32 := Scalar.muli c512_i32_15 v25
  let c640_i32_98 : BitVec 32 := 640#32
  ![v26.toNat, 640]
def k0_dev9 (d0 : Dev nD) : Nat :=
  let c0_i32_94 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_93 : BitVec 32 := 4#32
  let v145 : BitVec 32 := Scalar.muli v2 c4_i32_93
  let v146 : BitVec 32 := Scalar.addi c0_i32_94 v145
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_95 : BitVec 32 := 2#32
  let v147 : BitVec 32 := Scalar.muli v5 c2_i32_95
  let v148 : BitVec 32 := Scalar.addi v146 v147
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_11 v8
  let c1_i32_96 : BitVec 32 := 1#32
  let v149 : BitVec 32 := Scalar.muli v21 c1_i32_96
  let v150 : BitVec 32 := Scalar.addi v148 v149
  v150.toNat
def k0_off10 (d0 : Dev nD) : Fin 2 → Nat :=
  let c512_i32_15 : BitVec 32 := 512#32
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_14 v8
  let v26 : BitVec 32 := Scalar.muli c512_i32_15 v25
  let c768_i32_105 : BitVec 32 := 768#32
  ![v26.toNat, 768]
def k0_dev10 (d0 : Dev nD) : Nat :=
  let c0_i32_101 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_100 : BitVec 32 := 4#32
  let v157 : BitVec 32 := Scalar.muli v2 c4_i32_100
  let v158 : BitVec 32 := Scalar.addi c0_i32_101 v157
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_102 : BitVec 32 := 2#32
  let v159 : BitVec 32 := Scalar.muli v5 c2_i32_102
  let v160 : BitVec 32 := Scalar.addi v158 v159
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_11 v8
  let c1_i32_103 : BitVec 32 := 1#32
  let v161 : BitVec 32 := Scalar.muli v21 c1_i32_103
  let v162 : BitVec 32 := Scalar.addi v160 v161
  v162.toNat
def k0_off11 (d0 : Dev nD) : Fin 2 → Nat :=
  let c512_i32_15 : BitVec 32 := 512#32
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_14 v8
  let v26 : BitVec 32 := Scalar.muli c512_i32_15 v25
  let c896_i32_112 : BitVec 32 := 896#32
  ![v26.toNat, 896]
def k0_dev11 (d0 : Dev nD) : Nat :=
  let c0_i32_108 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_107 : BitVec 32 := 4#32
  let v169 : BitVec 32 := Scalar.muli v2 c4_i32_107
  let v170 : BitVec 32 := Scalar.addi c0_i32_108 v169
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_109 : BitVec 32 := 2#32
  let v171 : BitVec 32 := Scalar.muli v5 c2_i32_109
  let v172 : BitVec 32 := Scalar.addi v170 v171
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_11 v8
  let c1_i32_110 : BitVec 32 := 1#32
  let v173 : BitVec 32 := Scalar.muli v21 c1_i32_110
  let v174 : BitVec 32 := Scalar.addi v172 v173
  v174.toNat
def k0_off12 (d0 : Dev nD) : Fin 2 → Nat :=
  let c512_i32 : BitVec 32 := 512#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.muli c512_i32 v8
  let v191 : Index := Scalar.indexCast v24
  let c0_122 : Index := 0#32
  ![v191.toNat, 0]
def k0_off13 (d0 : Dev nD) (c0_i32_126 : BitVec 32) : Fin 2 → Nat :=
  let c0_127 : Index := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c1024_i32_125 : BitVec 32 := 1024#32
  let v195 : BitVec 32 := Scalar.muli v10 c1024_i32_125
  let v196 : BitVec 32 := Scalar.addi v195 c0_i32_126
  let v197 : Index := Scalar.indexCast v196
  ![0, v197.toNat]
def k0_off14 (d0 : Dev nD) (c0_i32_131 : BitVec 32) : Fin 2 → Nat :=
  let c0_i32_138 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c1024_i32_130 : BitVec 32 := 1024#32
  let v201 : BitVec 32 := Scalar.muli v10 c1024_i32_130
  let v202 : BitVec 32 := Scalar.addi v201 c0_i32_131
  ![0, v202.toNat]
def k0_dev12 (d0 : Dev nD) : Nat :=
  let c0_i32_135 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_12 v2
  let c4_i32_134 : BitVec 32 := 4#32
  let v203 : BitVec 32 := Scalar.muli v22 c4_i32_134
  let v204 : BitVec 32 := Scalar.addi c0_i32_135 v203
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_136 : BitVec 32 := 2#32
  let v205 : BitVec 32 := Scalar.muli v5 c2_i32_136
  let v206 : BitVec 32 := Scalar.addi v204 v205
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_137 : BitVec 32 := 1#32
  let v207 : BitVec 32 := Scalar.muli v8 c1_i32_137
  let v208 : BitVec 32 := Scalar.addi v206 v207
  v208.toNat
def k0_dev13 (d0 : Dev nD) : Nat :=
  let c0_i32_147 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_146 : BitVec 32 := 4#32
  let v219 : BitVec 32 := Scalar.muli v2 c4_i32_146
  let v220 : BitVec 32 := Scalar.addi c0_i32_147 v219
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_13 v5
  let c2_i32_148 : BitVec 32 := 2#32
  let v221 : BitVec 32 := Scalar.muli v23 c2_i32_148
  let v222 : BitVec 32 := Scalar.addi v220 v221
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_149 : BitVec 32 := 1#32
  let v223 : BitVec 32 := Scalar.muli v8 c1_i32_149
  let v224 : BitVec 32 := Scalar.addi v222 v223
  v224.toNat
def k0_off15 (d0 : Dev nD) : Fin 2 → Nat :=
  let c512_i32 : BitVec 32 := 512#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.muli c512_i32 v8
  let v241 : Index := Scalar.indexCast v24
  let c128_161 : Index := 128#32
  ![v241.toNat, 128]
def k0_dev14 (d0 : Dev nD) : Nat :=
  let c0_i32_174 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_12 v2
  let c4_i32_173 : BitVec 32 := 4#32
  let v253 : BitVec 32 := Scalar.muli v22 c4_i32_173
  let v254 : BitVec 32 := Scalar.addi c0_i32_174 v253
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_175 : BitVec 32 := 2#32
  let v255 : BitVec 32 := Scalar.muli v5 c2_i32_175
  let v256 : BitVec 32 := Scalar.addi v254 v255
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_176 : BitVec 32 := 1#32
  let v257 : BitVec 32 := Scalar.muli v8 c1_i32_176
  let v258 : BitVec 32 := Scalar.addi v256 v257
  v258.toNat
def k0_dev15 (d0 : Dev nD) : Nat :=
  let c0_i32_186 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_185 : BitVec 32 := 4#32
  let v269 : BitVec 32 := Scalar.muli v2 c4_i32_185
  let v270 : BitVec 32 := Scalar.addi c0_i32_186 v269
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_13 v5
  let c2_i32_187 : BitVec 32 := 2#32
  let v271 : BitVec 32 := Scalar.muli v23 c2_i32_187
  let v272 : BitVec 32 := Scalar.addi v270 v271
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_188 : BitVec 32 := 1#32
  let v273 : BitVec 32 := Scalar.muli v8 c1_i32_188
  let v274 : BitVec 32 := Scalar.addi v272 v273
  v274.toNat
def k0_off16 (d0 : Dev nD) : Fin 2 → Nat :=
  let c512_i32 : BitVec 32 := 512#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.muli c512_i32 v8
  let v291 : Index := Scalar.indexCast v24
  let c256_200 : Index := 256#32
  ![v291.toNat, 256]
def k0_dev16 (d0 : Dev nD) : Nat :=
  let c0_i32_213 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_12 v2
  let c4_i32_212 : BitVec 32 := 4#32
  let v303 : BitVec 32 := Scalar.muli v22 c4_i32_212
  let v304 : BitVec 32 := Scalar.addi c0_i32_213 v303
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_214 : BitVec 32 := 2#32
  let v305 : BitVec 32 := Scalar.muli v5 c2_i32_214
  let v306 : BitVec 32 := Scalar.addi v304 v305
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_215 : BitVec 32 := 1#32
  let v307 : BitVec 32 := Scalar.muli v8 c1_i32_215
  let v308 : BitVec 32 := Scalar.addi v306 v307
  v308.toNat
def k0_dev17 (d0 : Dev nD) : Nat :=
  let c0_i32_225 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_224 : BitVec 32 := 4#32
  let v319 : BitVec 32 := Scalar.muli v2 c4_i32_224
  let v320 : BitVec 32 := Scalar.addi c0_i32_225 v319
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_13 v5
  let c2_i32_226 : BitVec 32 := 2#32
  let v321 : BitVec 32 := Scalar.muli v23 c2_i32_226
  let v322 : BitVec 32 := Scalar.addi v320 v321
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_227 : BitVec 32 := 1#32
  let v323 : BitVec 32 := Scalar.muli v8 c1_i32_227
  let v324 : BitVec 32 := Scalar.addi v322 v323
  v324.toNat
def k0_off17 (d0 : Dev nD) : Fin 2 → Nat :=
  let c512_i32 : BitVec 32 := 512#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.muli c512_i32 v8
  let v341 : Index := Scalar.indexCast v24
  let c384 : Index := 384#32
  ![v341.toNat, 384]
def k0_dev18 (d0 : Dev nD) : Nat :=
  let c0_i32_251 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_12 v2
  let c4_i32_250 : BitVec 32 := 4#32
  let v353 : BitVec 32 := Scalar.muli v22 c4_i32_250
  let v354 : BitVec 32 := Scalar.addi c0_i32_251 v353
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_252 : BitVec 32 := 2#32
  let v355 : BitVec 32 := Scalar.muli v5 c2_i32_252
  let v356 : BitVec 32 := Scalar.addi v354 v355
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_253 : BitVec 32 := 1#32
  let v357 : BitVec 32 := Scalar.muli v8 c1_i32_253
  let v358 : BitVec 32 := Scalar.addi v356 v357
  v358.toNat
def k0_dev19 (d0 : Dev nD) : Nat :=
  let c0_i32_263 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_262 : BitVec 32 := 4#32
  let v369 : BitVec 32 := Scalar.muli v2 c4_i32_262
  let v370 : BitVec 32 := Scalar.addi c0_i32_263 v369
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_13 v5
  let c2_i32_264 : BitVec 32 := 2#32
  let v371 : BitVec 32 := Scalar.muli v23 c2_i32_264
  let v372 : BitVec 32 := Scalar.addi v370 v371
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_265 : BitVec 32 := 1#32
  let v373 : BitVec 32 := Scalar.muli v8 c1_i32_265
  let v374 : BitVec 32 := Scalar.addi v372 v373
  v374.toNat
def k0_off18 (d0 : Dev nD) : Fin 2 → Nat :=
  let c512_i32 : BitVec 32 := 512#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.muli c512_i32 v8
  let v391 : Index := Scalar.indexCast v24
  let c512_277 : Index := 512#32
  ![v391.toNat, 512]
def k0_dev20 (d0 : Dev nD) : Nat :=
  let c0_i32_290 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_12 v2
  let c4_i32_289 : BitVec 32 := 4#32
  let v403 : BitVec 32 := Scalar.muli v22 c4_i32_289
  let v404 : BitVec 32 := Scalar.addi c0_i32_290 v403
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_291 : BitVec 32 := 2#32
  let v405 : BitVec 32 := Scalar.muli v5 c2_i32_291
  let v406 : BitVec 32 := Scalar.addi v404 v405
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_292 : BitVec 32 := 1#32
  let v407 : BitVec 32 := Scalar.muli v8 c1_i32_292
  let v408 : BitVec 32 := Scalar.addi v406 v407
  v408.toNat
def k0_dev21 (d0 : Dev nD) : Nat :=
  let c0_i32_302 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_301 : BitVec 32 := 4#32
  let v419 : BitVec 32 := Scalar.muli v2 c4_i32_301
  let v420 : BitVec 32 := Scalar.addi c0_i32_302 v419
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_13 v5
  let c2_i32_303 : BitVec 32 := 2#32
  let v421 : BitVec 32 := Scalar.muli v23 c2_i32_303
  let v422 : BitVec 32 := Scalar.addi v420 v421
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_304 : BitVec 32 := 1#32
  let v423 : BitVec 32 := Scalar.muli v8 c1_i32_304
  let v424 : BitVec 32 := Scalar.addi v422 v423
  v424.toNat
def k0_off19 (d0 : Dev nD) : Fin 2 → Nat :=
  let c512_i32 : BitVec 32 := 512#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.muli c512_i32 v8
  let v441 : Index := Scalar.indexCast v24
  let c640 : Index := 640#32
  ![v441.toNat, 640]
def k0_dev22 (d0 : Dev nD) : Nat :=
  let c0_i32_328 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_12 v2
  let c4_i32_327 : BitVec 32 := 4#32
  let v453 : BitVec 32 := Scalar.muli v22 c4_i32_327
  let v454 : BitVec 32 := Scalar.addi c0_i32_328 v453
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_329 : BitVec 32 := 2#32
  let v455 : BitVec 32 := Scalar.muli v5 c2_i32_329
  let v456 : BitVec 32 := Scalar.addi v454 v455
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_330 : BitVec 32 := 1#32
  let v457 : BitVec 32 := Scalar.muli v8 c1_i32_330
  let v458 : BitVec 32 := Scalar.addi v456 v457
  v458.toNat
def k0_dev23 (d0 : Dev nD) : Nat :=
  let c0_i32_340 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_339 : BitVec 32 := 4#32
  let v469 : BitVec 32 := Scalar.muli v2 c4_i32_339
  let v470 : BitVec 32 := Scalar.addi c0_i32_340 v469
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_13 v5
  let c2_i32_341 : BitVec 32 := 2#32
  let v471 : BitVec 32 := Scalar.muli v23 c2_i32_341
  let v472 : BitVec 32 := Scalar.addi v470 v471
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_342 : BitVec 32 := 1#32
  let v473 : BitVec 32 := Scalar.muli v8 c1_i32_342
  let v474 : BitVec 32 := Scalar.addi v472 v473
  v474.toNat
def k0_off20 (d0 : Dev nD) : Fin 2 → Nat :=
  let c512_i32 : BitVec 32 := 512#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.muli c512_i32 v8
  let v491 : Index := Scalar.indexCast v24
  let c768 : Index := 768#32
  ![v491.toNat, 768]
def k0_dev24 (d0 : Dev nD) : Nat :=
  let c0_i32_366 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_12 v2
  let c4_i32_365 : BitVec 32 := 4#32
  let v503 : BitVec 32 := Scalar.muli v22 c4_i32_365
  let v504 : BitVec 32 := Scalar.addi c0_i32_366 v503
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_367 : BitVec 32 := 2#32
  let v505 : BitVec 32 := Scalar.muli v5 c2_i32_367
  let v506 : BitVec 32 := Scalar.addi v504 v505
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_368 : BitVec 32 := 1#32
  let v507 : BitVec 32 := Scalar.muli v8 c1_i32_368
  let v508 : BitVec 32 := Scalar.addi v506 v507
  v508.toNat
def k0_dev25 (d0 : Dev nD) : Nat :=
  let c0_i32_378 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_377 : BitVec 32 := 4#32
  let v519 : BitVec 32 := Scalar.muli v2 c4_i32_377
  let v520 : BitVec 32 := Scalar.addi c0_i32_378 v519
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_13 v5
  let c2_i32_379 : BitVec 32 := 2#32
  let v521 : BitVec 32 := Scalar.muli v23 c2_i32_379
  let v522 : BitVec 32 := Scalar.addi v520 v521
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_380 : BitVec 32 := 1#32
  let v523 : BitVec 32 := Scalar.muli v8 c1_i32_380
  let v524 : BitVec 32 := Scalar.addi v522 v523
  v524.toNat
def k0_off21 (d0 : Dev nD) : Fin 2 → Nat :=
  let c512_i32 : BitVec 32 := 512#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.muli c512_i32 v8
  let v541 : Index := Scalar.indexCast v24
  let c896 : Index := 896#32
  ![v541.toNat, 896]
def k0_dev26 (d0 : Dev nD) : Nat :=
  let c0_i32_404 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_12 v2
  let c4_i32_403 : BitVec 32 := 4#32
  let v553 : BitVec 32 := Scalar.muli v22 c4_i32_403
  let v554 : BitVec 32 := Scalar.addi c0_i32_404 v553
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_405 : BitVec 32 := 2#32
  let v555 : BitVec 32 := Scalar.muli v5 c2_i32_405
  let v556 : BitVec 32 := Scalar.addi v554 v555
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_406 : BitVec 32 := 1#32
  let v557 : BitVec 32 := Scalar.muli v8 c1_i32_406
  let v558 : BitVec 32 := Scalar.addi v556 v557
  v558.toNat
def k0_dev27 (d0 : Dev nD) : Nat :=
  let c0_i32_416 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_415 : BitVec 32 := 4#32
  let v569 : BitVec 32 := Scalar.muli v2 c4_i32_415
  let v570 : BitVec 32 := Scalar.addi c0_i32_416 v569
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_13 v5
  let c2_i32_417 : BitVec 32 := 2#32
  let v571 : BitVec 32 := Scalar.muli v23 c2_i32_417
  let v572 : BitVec 32 := Scalar.addi v570 v571
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_418 : BitVec 32 := 1#32
  let v573 : BitVec 32 := Scalar.muli v8 c1_i32_418
  let v574 : BitVec 32 := Scalar.addi v572 v573
  v574.toNat
def k0_off22 (d0 : Dev nD) (c0_i32_424 : BitVec 32) : Fin 2 → Nat :=
  let c0_i32_431 : BitVec 32 := 0#32
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v12 : BitVec 32 := Scalar.muli c2_i32_5 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c1024_i32_423 : BitVec 32 := 1024#32
  let v583 : BitVec 32 := Scalar.muli v13 c1024_i32_423
  let v584 : BitVec 32 := Scalar.addi v583 c0_i32_424
  ![0, v584.toNat]
def k0_off23 (d0 : Dev nD) (c0_i32_436 : BitVec 32) : Fin 2 → Nat :=
  let c0_i32_443 : BitVec 32 := 0#32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c2_i32_6 v2
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let v16 : BitVec 32 := Scalar.addi v14 v15
  let c1024_i32_435 : BitVec 32 := 1024#32
  let v597 : BitVec 32 := Scalar.muli v16 c1024_i32_435
  let v598 : BitVec 32 := Scalar.addi v597 c0_i32_436
  ![0, v598.toNat]
def k0_dev28 (d0 : Dev nD) : Nat :=
  let c0_i32_452 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_12 v2
  let c4_i32_451 : BitVec 32 := 4#32
  let v613 : BitVec 32 := Scalar.muli v22 c4_i32_451
  let v614 : BitVec 32 := Scalar.addi c0_i32_452 v613
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_453 : BitVec 32 := 2#32
  let v615 : BitVec 32 := Scalar.muli v5 c2_i32_453
  let v616 : BitVec 32 := Scalar.addi v614 v615
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_454 : BitVec 32 := 1#32
  let v617 : BitVec 32 := Scalar.muli v8 c1_i32_454
  let v618 : BitVec 32 := Scalar.addi v616 v617
  v618.toNat
def k0_dev29 (d0 : Dev nD) : Nat :=
  let c0_i32_476 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_475 : BitVec 32 := 4#32
  let v643 : BitVec 32 := Scalar.muli v2 c4_i32_475
  let v644 : BitVec 32 := Scalar.addi c0_i32_476 v643
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_13 v5
  let c2_i32_477 : BitVec 32 := 2#32
  let v645 : BitVec 32 := Scalar.muli v23 c2_i32_477
  let v646 : BitVec 32 := Scalar.addi v644 v645
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_478 : BitVec 32 := 1#32
  let v647 : BitVec 32 := Scalar.muli v8 c1_i32_478
  let v648 : BitVec 32 := Scalar.addi v646 v647
  v648.toNat
def k0_dev30 (d0 : Dev nD) : Nat :=
  let c0_i32_524 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_12 v2
  let c4_i32_523 : BitVec 32 := 4#32
  let v701 : BitVec 32 := Scalar.muli v22 c4_i32_523
  let v702 : BitVec 32 := Scalar.addi c0_i32_524 v701
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_525 : BitVec 32 := 2#32
  let v703 : BitVec 32 := Scalar.muli v5 c2_i32_525
  let v704 : BitVec 32 := Scalar.addi v702 v703
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_526 : BitVec 32 := 1#32
  let v705 : BitVec 32 := Scalar.muli v8 c1_i32_526
  let v706 : BitVec 32 := Scalar.addi v704 v705
  v706.toNat
def k0_dev31 (d0 : Dev nD) : Nat :=
  let c0_i32_548 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_547 : BitVec 32 := 4#32
  let v731 : BitVec 32 := Scalar.muli v2 c4_i32_547
  let v732 : BitVec 32 := Scalar.addi c0_i32_548 v731
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_13 v5
  let c2_i32_549 : BitVec 32 := 2#32
  let v733 : BitVec 32 := Scalar.muli v23 c2_i32_549
  let v734 : BitVec 32 := Scalar.addi v732 v733
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_550 : BitVec 32 := 1#32
  let v735 : BitVec 32 := Scalar.muli v8 c1_i32_550
  let v736 : BitVec 32 := Scalar.addi v734 v735
  v736.toNat
def k0_dev32 (d0 : Dev nD) : Nat :=
  let c0_i32_596 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_12 v2
  let c4_i32_595 : BitVec 32 := 4#32
  let v789 : BitVec 32 := Scalar.muli v22 c4_i32_595
  let v790 : BitVec 32 := Scalar.addi c0_i32_596 v789
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_597 : BitVec 32 := 2#32
  let v791 : BitVec 32 := Scalar.muli v5 c2_i32_597
  let v792 : BitVec 32 := Scalar.addi v790 v791
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_598 : BitVec 32 := 1#32
  let v793 : BitVec 32 := Scalar.muli v8 c1_i32_598
  let v794 : BitVec 32 := Scalar.addi v792 v793
  v794.toNat
def k0_dev33 (d0 : Dev nD) : Nat :=
  let c0_i32_620 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_619 : BitVec 32 := 4#32
  let v819 : BitVec 32 := Scalar.muli v2 c4_i32_619
  let v820 : BitVec 32 := Scalar.addi c0_i32_620 v819
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_13 v5
  let c2_i32_621 : BitVec 32 := 2#32
  let v821 : BitVec 32 := Scalar.muli v23 c2_i32_621
  let v822 : BitVec 32 := Scalar.addi v820 v821
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_622 : BitVec 32 := 1#32
  let v823 : BitVec 32 := Scalar.muli v8 c1_i32_622
  let v824 : BitVec 32 := Scalar.addi v822 v823
  v824.toNat
def k0_dev34 (d0 : Dev nD) : Nat :=
  let c0_i32_668 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_12 v2
  let c4_i32_667 : BitVec 32 := 4#32
  let v877 : BitVec 32 := Scalar.muli v22 c4_i32_667
  let v878 : BitVec 32 := Scalar.addi c0_i32_668 v877
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_669 : BitVec 32 := 2#32
  let v879 : BitVec 32 := Scalar.muli v5 c2_i32_669
  let v880 : BitVec 32 := Scalar.addi v878 v879
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_670 : BitVec 32 := 1#32
  let v881 : BitVec 32 := Scalar.muli v8 c1_i32_670
  let v882 : BitVec 32 := Scalar.addi v880 v881
  v882.toNat
def k0_dev35 (d0 : Dev nD) : Nat :=
  let c0_i32_692 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_691 : BitVec 32 := 4#32
  let v907 : BitVec 32 := Scalar.muli v2 c4_i32_691
  let v908 : BitVec 32 := Scalar.addi c0_i32_692 v907
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_13 v5
  let c2_i32_693 : BitVec 32 := 2#32
  let v909 : BitVec 32 := Scalar.muli v23 c2_i32_693
  let v910 : BitVec 32 := Scalar.addi v908 v909
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_694 : BitVec 32 := 1#32
  let v911 : BitVec 32 := Scalar.muli v8 c1_i32_694
  let v912 : BitVec 32 := Scalar.addi v910 v911
  v912.toNat
def k0_off24 (d0 : Dev nD) (c0_i32_712 : BitVec 32) : Fin 2 → Nat :=
  let c0_i32_719 : BitVec 32 := 0#32
  let c2_i32_9 : BitVec 32 := 2#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_8 v2
  let v18 : BitVec 32 := Scalar.muli c2_i32_9 v17
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let v20 : BitVec 32 := Scalar.addi v18 v19
  let c1024_i32_711 : BitVec 32 := 1024#32
  let v935 : BitVec 32 := Scalar.muli v20 c1024_i32_711
  let v936 : BitVec 32 := Scalar.addi v935 c0_i32_712
  ![0, v936.toNat]
def k0_dev36 (d0 : Dev nD) : Nat :=
  let c0_i32_1071 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1070 : BitVec 32 := 4#32
  let v1269 : BitVec 32 := Scalar.muli v2 c4_i32_1070
  let v1270 : BitVec 32 := Scalar.addi c0_i32_1071 v1269
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1072 : BitVec 32 := 2#32
  let v1271 : BitVec 32 := Scalar.muli v5 c2_i32_1072
  let v1272 : BitVec 32 := Scalar.addi v1270 v1271
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_11 v8
  let c1_i32_1073 : BitVec 32 := 1#32
  let v1273 : BitVec 32 := Scalar.muli v21 c1_i32_1073
  let v1274 : BitVec 32 := Scalar.addi v1272 v1273
  v1274.toNat
def k0_dev37 (d0 : Dev nD) : Nat :=
  let c0_i32_1076 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_12 v2
  let c4_i32_1075 : BitVec 32 := 4#32
  let v1275 : BitVec 32 := Scalar.muli v22 c4_i32_1075
  let v1276 : BitVec 32 := Scalar.addi c0_i32_1076 v1275
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1077 : BitVec 32 := 2#32
  let v1277 : BitVec 32 := Scalar.muli v5 c2_i32_1077
  let v1278 : BitVec 32 := Scalar.addi v1276 v1277
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1078 : BitVec 32 := 1#32
  let v1279 : BitVec 32 := Scalar.muli v8 c1_i32_1078
  let v1280 : BitVec 32 := Scalar.addi v1278 v1279
  v1280.toNat
def k0_dev38 (d0 : Dev nD) : Nat :=
  let c0_i32_1081 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1080 : BitVec 32 := 4#32
  let v1281 : BitVec 32 := Scalar.muli v2 c4_i32_1080
  let v1282 : BitVec 32 := Scalar.addi c0_i32_1081 v1281
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_13 v5
  let c2_i32_1082 : BitVec 32 := 2#32
  let v1283 : BitVec 32 := Scalar.muli v23 c2_i32_1082
  let v1284 : BitVec 32 := Scalar.addi v1282 v1283
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1083 : BitVec 32 := 1#32
  let v1285 : BitVec 32 := Scalar.muli v8 c1_i32_1083
  let v1286 : BitVec 32 := Scalar.addi v1284 v1285
  v1286.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x1024 : Shape := ⟨2, ![2048, 1024]⟩
abbrev S2048x4096 : Shape := ⟨2, ![2048, 4096]⟩
abbrev S1024x2048 : Shape := ⟨2, ![1024, 2048]⟩
abbrev S1024x4096 : Shape := ⟨2, ![1024, 4096]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S1024x2048, .f32⟩
  | .hbm, ⟨3, _⟩ => ⟨S1024x4096, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.KernelIdeal.Basics.lean ====
/-
# The mesh, the semaphores, the buffers' pieces and what they hold

Eight devices, number `4 x + 2 y + z`. Every device multiplies its rows of the operands for one QUADRANT of the columns
(`qq c = 2 x + y`), sends half of the rows of that product to its partner along `z`, adds the half it gets, and the
finished quadrants go round the four devices of its `(x, y)` face, the diagonal one forwarded by a neighbour.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The mesh -/

set_option backward.proofsInPublic true in
/-- The neighbour along `z`. -/
def zp (c : Dev nD) : Dev nD := ⟨(4 * (c.val / 4) + 2 * ((c.val / 2) % 2) + 1) - (c.val % 2), by revert c; decide⟩
set_option backward.proofsInPublic true in
/-- The neighbour along `x`. -/
def xn (c : Dev nD) : Dev nD := ⟨(2 * ((c.val / 2) % 2) + (c.val % 2) + 4) - 4 * (c.val / 4), by revert c; decide⟩
set_option backward.proofsInPublic true in
/-- The neighbour along `y`. -/
def yn (c : Dev nD) : Dev nD := ⟨(4 * (c.val / 4) + (c.val % 2) + 2) - 2 * ((c.val / 2) % 2), by revert c; decide⟩

set_option backward.proofsInPublic true in
/-- The place along `z`: which half of the result's rows the device keeps. -/
def zz (c : Dev nD) : Fin 2 := ⟨c.val % 2, by omega⟩
set_option backward.proofsInPublic true in
/-- The place in the `(x, y)` face: which quadrant of the columns the device computes. -/
def qq (c : Dev nD) : Fin 4 := ⟨c.val / 2, by revert c; decide⟩
/-- The other half. -/
def oz (c : Dev nD) : Fin 2 := zz (zp c)

theorem zp_zp : ∀ c, zp (zp c) = c := by decide
theorem xn_xn : ∀ c, xn (xn c) = c := by decide
theorem yn_yn : ∀ c, yn (yn c) = c := by decide
theorem xn_yn : ∀ c, xn (yn c) = yn (xn c) := by decide
theorem zz_xn : ∀ c, zz (xn c) = zz c := by decide
theorem zz_yn : ∀ c, zz (yn c) = zz c := by decide
theorem oz_zp : ∀ c, oz (zp c) = zz c := by decide
theorem qq_zp : ∀ c, qq (zp c) = qq c := by decide

def zpE : Dev nD ≃ Dev nD := ⟨zp, zp, zp_zp, zp_zp⟩
def xnE : Dev nD ≃ Dev nD := ⟨xn, xn, xn_xn, xn_xn⟩
def ynE : Dev nD ≃ Dev nD := ⟨yn, yn, yn_yn, yn_yn⟩

/-- The four quadrants as seen from a device: its own, its two neighbours', the diagonal one. -/
theorem quads : ∀ c, (Finset.univ : Finset (Fin 4)) = {qq c, qq (xn c), qq (yn c), qq (xn (yn c))} := by decide
theorem quads_nodup : ∀ c, [qq c, qq (xn c), qq (yn c), qq (xn (yn c))].Nodup := by decide

/-! ## The semaphores -/

/-- A device's own semaphores: the exit barrier's, and ten kinds of transfer semaphore for eight chunks. -/
abbrev OI : Type := Unit ⊕ (Fin 10 × Fin 8)
/-- Those and the runtime's barrier semaphore. -/
abbrev CI : Type := Unit ⊕ OI

abbrev barS : Sem sig := (SemArray.scalar (sig.barrier 0 rfl) : Sems sig S_).sem
abbrev exitS : Sem sig := (cc0_scratch12 : Sems sig S_).sem

set_option backward.proofsInPublic true in
def dsem (p : Fin 10 × Fin 8) : DmaSem sig := (⟨3 + 8 * p.1.val + p.2.val, by have := p.1.isLt; have := p.2.isLt; omega⟩ : Fin 83)

def osem : OI → SemLoc sig
  | .inl _ => .reg exitS
  | .inr p => .dma (dsem p)
def csem : CI → SemLoc sig
  | .inl _ => .reg barS
  | .inr o => osem o

abbrev tcOf (c : Dev nD) : Thread nD τ := (c : Thread nD τ)
abbrev kcell (p : Dev nD × CI) : GSem nD τ sig := (tcOf p.1, csem p.2)

abbrev bI : CI := .inl ()
abbrev eI : CI := .inr (.inl ())
abbrev dI (a : Fin 10) (k : Fin 8) : CI := .inr (.inr (a, k))

/-- Which of them a semaphore is. -/
def idx? (s : SemLoc sig) : Option CI := (Finset.univ : Finset CI).toList.find? (fun i => csem i = s)

theorem csem_inj : Function.Injective csem := by
  intro a b h
  rcases a with ⟨⟩ | ⟨⟨⟩ | ⟨a, k⟩⟩ <;> rcases b with ⟨⟩ | ⟨⟨⟩ | ⟨a', k'⟩⟩ <;> simp only [csem, osem] at h
  · rfl
  · exact absurd h (by decide)
  · cases h
  · exact absurd h (by decide)
  · rfl
  · cases h
  · cases h
  · cases h
  · have h' := congrArg (fun s : SemLoc sig => match s with | .dma q => (q.val : ℕ) | .reg _ => 0) h
    simp only [dsem] at h'
    have hk := k.isLt; have hk' := k'.isLt
    have e1 : a = a' := Fin.ext (by omega)
    subst e1
    have e2 : k = k' := Fin.ext (by omega)
    subst e2; rfl

theorem idx_csem (i : CI) : idx? (csem i) = some i := by
  unfold idx?
  obtain ⟨j, hj⟩ : ∃ j, (Finset.univ : Finset CI).toList.find? (fun i' => csem i' = csem i) = some j := by
    rw [← Option.isSome_iff_exists, List.find?_isSome]
    exact ⟨i, Finset.mem_toList.mpr (Finset.mem_univ i), by simp⟩
  rw [hj]
  have := List.find?_some hj
  simp only [decide_eq_true_eq] at this
  rw [csem_inj this]

theorem kcell_inj : Function.Injective kcell := by
  intro a b h
  have h1 : a.1 = b.1 := congrArg (fun g : GSem nD τ sig => g.1.1) h
  have h2 : a.2 = b.2 := csem_inj (congrArg (fun g : GSem nD τ sig => g.2) h)
  exact Prod.ext h1 h2

/-! ## The buffers -/

abbrev xM : Memref sig .tc .vmem S1024x1024 .f32 := Memref.whole cc0_stg0_0
abbrev yM : Memref sig .tc .vmem S1024x4096 .f32 := Memref.whole cc0_stg1_0
abbrev oM : Memref sig .tc .vmem S512x4096 .f32 := Memref.whole cc0_stg2_0
abbrev pM : Memref sig .tc .vmem S1024x1024 .f32 := Memref.whole cc0_scratch0
abbrev zM : Memref sig .tc .vmem S512x1024 .f32 := Memref.whole cc0_scratch1

/-- The blocks of 512 rows and 128 columns every transfer and every addition works on: of the product, of the half
    received, of the result. -/
abbrev pB (off : Fin 2 → ℕ) (h : ∀ a, off a + S512x128.size a ≤ S1024x1024.size a) : Memref sig .tc .vmem S512x128 .f32 :=
  pM.slice (Rect.unit (s := S1024x1024) off S512x128.size h) (fun _ => rfl)
abbrev zB (off : Fin 2 → ℕ) (h : ∀ a, off a + S512x128.size a ≤ S512x1024.size a) : Memref sig .tc .vmem S512x128 .f32 :=
  zM.slice (Rect.unit (s := S512x1024) off S512x128.size h) (fun _ => rfl)
abbrev oB (off : Fin 2 → ℕ) (h : ∀ a, off a + S512x128.size a ≤ S512x4096.size a) : Memref sig .tc .vmem S512x128 .f32 :=
  oM.slice (Rect.unit (s := S512x4096) off S512x128.size h) (fun _ => rfl)

/-- The elements of the product's block of rows `r`, chunk `k`; of the received half's chunk `k`; of the result's
    quadrant `q`, chunk `k`. -/
def pS (r : Fin 2) (k : Fin 8) : Finset (Shape.Idx S1024x1024) := Finset.univ.filter fun i => ((i 0).val / 512 = r.val ∧ (i 1).val / 128 = k.val)
def zS (k : Fin 8) : Finset (Shape.Idx S512x1024) := Finset.univ.filter fun i => (i 1).val / 128 = k.val
def oS (q : Fin 4) (k : Fin 8) : Finset (Shape.Idx S512x4096) := Finset.univ.filter fun i => (i 1).val / 128 = 8 * q.val + k.val

theorem pS_eq {off : Fin 2 → ℕ} {r : Fin 2} {k : Fin 8} (h : off = ![512 * r.val, 128 * k.val])
    (hb : ∀ a, off a + S512x128.size a ≤ S1024x1024.size a) : (Rect.unit (s := S1024x1024) off S512x128.size hb).set = pS r k := by
  subst h; ext i
  rw [Rect.mem_set_unit, Fin.forall_fin_two, pS, Finset.mem_filter]
  show (512 * r.val ≤ (i 0).val ∧ (i 0).val < 512 * r.val + 512) ∧ (128 * k.val ≤ (i 1).val ∧ (i 1).val < 128 * k.val + 128) ↔ _
  simp only [Finset.mem_univ, true_and]; omega

theorem zS_eq {off : Fin 2 → ℕ} {k : Fin 8} (h : off = ![0, 128 * k.val])
    (hb : ∀ a, off a + S512x128.size a ≤ S512x1024.size a) : (Rect.unit (s := S512x1024) off S512x128.size hb).set = zS k := by
  subst h; ext i
  rw [Rect.mem_set_unit, Fin.forall_fin_two, zS, Finset.mem_filter]
  have h0 : (i 0).val < 512 := (i 0).isLt
  show (0 ≤ (i 0).val ∧ (i 0).val < 0 + 512) ∧ (128 * k.val ≤ (i 1).val ∧ (i 1).val < 128 * k.val + 128) ↔ _
  simp only [Finset.mem_univ, true_and]; omega

theorem oS_eq {off : Fin 2 → ℕ} {q : Fin 4} {k : Fin 8} (h : off = ![0, 1024 * q.val + 128 * k.val])
    (hb : ∀ a, off a + S512x128.size a ≤ S512x4096.size a) : (Rect.unit (s := S512x4096) off S512x128.size hb).set = oS q k := by
  subst h; ext i
  rw [Rect.mem_set_unit, Fin.forall_fin_two, oS, Finset.mem_filter]
  have h0 : (i 0).val < 512 := (i 0).isLt
  show (0 ≤ (i 0).val ∧ (i 0).val < 0 + 512) ∧ (1024 * q.val + 128 * k.val ≤ (i 1).val ∧ (i 1).val < 1024 * q.val + 128 * k.val + 128) ↔ _
  simp only [Finset.mem_univ, true_and]; omega

/-- What one transfer of such a block credits. -/
abbrev N : ℕ := (zB ![0, 0] (by decide)).view.dmaCredit
theorem N_pos : 0 < N := View.dmaCredit_pos _ (by decide)

/-- Pieces of the three buffers at a device, at some share and contents. -/
def pAt (c : Dev nD) (S : Finset (Shape.Idx S1024x1024)) (f : (cc0_scratch0 : Ref sig .tc).ty.Contents (Elt F)) : sProp 𝕄 :=
  (tcOf c).loc cc0_scratch0 ↦[S]{fullShare} f
def zAt (c : Dev nD) (S : Finset (Shape.Idx S512x1024)) (f : (cc0_scratch1 : Ref sig .tc).ty.Contents (Elt F)) : sProp 𝕄 :=
  (tcOf c).loc cc0_scratch1 ↦[S]{fullShare} f
def oAt (c : Dev nD) (S : Finset (Shape.Idx S512x4096)) (q : PosShare TreeShare) (f : (cc0_stg2_0 : Ref sig .tc).ty.Contents (Elt F)) : sProp 𝕄 :=
  (tcOf c).loc cc0_stg2_0 ↦[S]{q} f

omit [FloatOps F] in
instance pAt_storable (c S f) : BI.Storable (upEmb : UEmb _ 𝕄) (pAt (F := F) c S f) := by unfold pAt; infer_instance
omit [FloatOps F] in
instance zAt_storable (c S f) : BI.Storable (upEmb : UEmb _ 𝕄) (zAt (F := F) c S f) := by unfold zAt; infer_instance
omit [FloatOps F] in
instance oAt_storable (c S q f) : BI.Storable (upEmb : UEmb _ 𝕄) (oAt (F := F) c S q f) := by unfold oAt; infer_instance

/-! ## What the buffers hold -/

variable (m : (ℓ : Loc nD τ sig) → Buf (Elt F) ℓ)

/-- The staged operands of device `c`. -/
def xstg (c : Dev nD) : (cc0_stg0_0 : Ref sig .tc).ty.Contents (Elt F) :=
  (win0_0.blk (0 : Fin 1)).view.read (Elt F) (m ((c : Thread nD τ).loc main_arg0))
def ystg (c : Dev nD) : (cc0_stg1_0 : Ref sig .tc).ty.Contents (Elt F) :=
  (win0_1.blk (0 : Fin 1)).view.read (Elt F) (m ((c : Thread nD τ).loc main_arg1))

/-- The four blocks of columns of the product, as they are stored. -/
def w0 (c : Dev nD) : FVec F S1024x128 .f32 :=
  k0_pay2 (xstg m c) (yM.view.readAt (Elt F) (Rect.unit (s := S1024x4096) (k0_off1 c 0#32) S1024x128.size (k0_off1_inb c 0)).toLoadRect (ystg m c))
def w1 (c : Dev nD) : FVec F S1024x128 .f32 :=
  k0_pay3 (k0_pay1 (xstg m c)) (yM.view.readAt (Elt F) (Rect.unit (s := S1024x4096) (k0_off1 c 128#32) S1024x128.size (k0_off1_inb c 1)).toLoadRect (ystg m c))
def w2 (c : Dev nD) : FVec F S1024x256 .f32 :=
  k0_pay5 (k0_pay4 (k0_pay1 (xstg m c)) (yM.view.readAt (Elt F) (Rect.unit (s := S1024x4096) (k0_off4 c) S1024x256.size (k0_off4_inb c)).toLoadRect (ystg m c)))
def w3 (c : Dev nD) : FVec F S1024x512 .f32 :=
  k0_pay7 (k0_pay6 (k0_pay1 (xstg m c)) (yM.view.readAt (Elt F) (Rect.unit (s := S1024x4096) (k0_off7 c) S1024x512.size (k0_off7_inb c)).toLoadRect (ystg m c)))

set_option backward.proofsInPublic true in
/-- The product of device `c`'s rows for its quadrant of columns. -/
def PC (c : Dev nD) : (cc0_scratch0 : Ref sig .tc).ty.Contents (Elt F) := fun i =>
  if h : (i 1).val < 128 then w0 m c (Shape.pair (i 0) ⟨(i 1).val, h⟩)
  else if h : (i 1).val < 256 then w1 m c (Shape.pair (i 0) (⟨(i 1).val - 128, by omega⟩ : Fin 128))
  else if h : (i 1).val < 512 then w2 m c (Shape.pair (i 0) (⟨(i 1).val - 256, by omega⟩ : Fin 256))
  else w3 m c (Shape.pair (i 0) (⟨(i 1).val - 512, by have : (i 1).val < 1024 := (i 1).isLt; omega⟩ : Fin 512))

set_option backward.proofsInPublic true in
/-- Place `a, b` of the half `r` of a product. -/
def half (r : Fin 2) (a : Fin 512) (b : Fin 1024) : Shape.Idx S1024x1024 :=
  Shape.pair (⟨512 * r.val + a.val, by omega⟩ : Fin 1024) b

/-- What device `c` receives from its partner: the partner's product at the rows `c` keeps. -/
def ZC (c : Dev nD) : (cc0_scratch1 : Ref sig .tc).ty.Contents (Elt F) := fun i => PC m (zp c) (half (zz c) (i 0) (i 1))

set_option backward.proofsInPublic true in
/-- The device of quadrant `q` that keeps half `r`. -/
def dv (q : Fin 4) (r : Fin 2) : Dev nD := (⟨2 * q.val + r.val, by omega⟩ : Fin 8)
theorem dv_qz : ∀ c, dv (qq c) (zz c) = c := by decide
theorem dv_qx : ∀ c, dv (qq (xn c)) (zz c) = xn c := by decide
theorem dv_qy : ∀ c, dv (qq (yn c)) (zz c) = yn c := by decide

set_option backward.proofsInPublic true in
/-- The result of the devices that keep half `r`: at a column of quadrant `q`, the sum of the two products of that quadrant. -/
def OCr (r : Fin 2) : (cc0_stg2_0 : Ref sig .tc).ty.Contents (Elt F) := fun i =>
  FloatOps.addf (PC m (dv ⟨(i 1).val / 1024, by have : (i 1).val < 4096 := (i 1).isLt; omega⟩ r) (half r (i 0) ⟨(i 1).val % 1024, by omega⟩))
    (PC m (zp (dv ⟨(i 1).val / 1024, by have : (i 1).val < 4096 := (i 1).isLt; omega⟩ r)) (half r (i 0) ⟨(i 1).val % 1024, by omega⟩))
def OC (c : Dev nD) : (cc0_stg2_0 : Ref sig .tc).ty.Contents (Elt F) := OCr m (zz c)

theorem OC_xn (c : Dev nD) : OC m (xn c) = OC m c := by unfold OC; rw [zz_xn]
theorem OC_yn (c : Dev nD) : OC m (yn c) = OC m c := by unfold OC; rw [zz_yn]

end Cert.KernelIdealProof

end
-- ==== Proof.KernelIdeal.Pieces.lean ====
/-
# The buffers in blocks

How the product, the received half and the result split into the blocks that travel, and what the stores and the
transfers leave in them.
-/
module

public import proofs.«01_k».proof.Proof.KernelIdeal.Basics

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Splitting a buffer into its blocks -/

/-- The columns of the chunks `K` of the product. -/
def colS (K : Finset (Fin 8)) : Finset (Shape.Idx S1024x1024) := Finset.univ.filter fun i => ∃ k ∈ K, (i 1).val / 128 = k.val

theorem colS_univ : colS Finset.univ = Finset.univ := by
  ext i; simp only [colS, Finset.mem_filter, Finset.mem_univ, _root_.true_and, iff_true]
  have h : (i 1).val < 1024 := (i 1).isLt
  exact ⟨⟨(i 1).val / 128, by omega⟩, rfl⟩

theorem colS_eq {off n : ℕ} {K : Finset (Fin 8)} (hK : ∀ k : Fin 8, k ∈ K ↔ off ≤ 128 * k.val ∧ 128 * k.val < off + n) (ho : off % 128 = 0) (hn : n % 128 = 0)
    {hb : ∀ a, (![0, off] : Fin 2 → ℕ) a + (![1024, n] : Fin 2 → ℕ) a ≤ S1024x1024.size a} : (Rect.unit (s := S1024x1024) ![0, off] ![1024, n] hb).set = colS K := by
  ext i
  rw [Rect.mem_set_unit, Fin.forall_fin_two, colS, Finset.mem_filter]
  have h0 : (i 0).val < 1024 := (i 0).isLt
  have h1 : (i 1).val < 1024 := (i 1).isLt
  show (0 ≤ (i 0).val ∧ (i 0).val < 0 + 1024) ∧ (off ≤ (i 1).val ∧ (i 1).val < off + n) ↔ _
  simp only [Finset.mem_univ, _root_.true_and]
  constructor
  · intro h
    exact ⟨⟨(i 1).val / 128, by omega⟩, (hK _).mpr ⟨by show off ≤ 128 * ((i 1).val / 128); omega, by show 128 * ((i 1).val / 128) < off + n; omega⟩, rfl⟩
  · rintro ⟨k, hk, e⟩
    have := (hK k).mp hk
    omega

omit [FloatOps F] in
/-- Chunks of the product, each split into the half its device keeps and the half it sends. -/
theorem pAt_cols (c : Dev nD) (K : Finset (Fin 8)) (f : (cc0_scratch0 : Ref sig .tc).ty.Contents (Elt F)) :
    (pAt c (colS K) f : sProp 𝕄) = bigSep K fun k => iprop(pAt c (pS (zz c) k) f ∗ pAt c (pS (oz c) k) f) := by
  have hz : zz c ≠ oz c := by revert c; decide
  have e : colS K = K.biUnion fun k => pS (zz c) k ∪ pS (oz c) k := by
    ext i
    have h0 : (i 0).val < 1024 := (i 0).isLt
    have hh : (i 0).val / 512 = (zz c).val ∨ (i 0).val / 512 = (oz c).val := by
      have : (zz c).val ≠ (oz c).val := fun h => hz (Fin.ext h)
      have := (zz c).isLt; have := (oz c).isLt; omega
    simp only [colS, pS, Finset.mem_biUnion, Finset.mem_union, Finset.mem_filter, Finset.mem_univ, _root_.true_and]
    constructor
    · rintro ⟨k, hk, e⟩; exact ⟨k, hk, hh.imp (fun h => ⟨h, e⟩) (fun h => ⟨h, e⟩)⟩
    · rintro ⟨k, hk, h | h⟩ <;> exact ⟨k, hk, h.2⟩
  unfold pAt
  rw [e, pointsTo_biUnion]
  · refine bigSep_congr fun k _ => BI.equiv_iff.mp ?_
    have hd : Disjoint (pS (zz c) k) (pS (oz c) k) := Finset.disjoint_left.mpr fun i h h' =>
      hz (Fin.ext ((Finset.mem_filter.mp h).2.1.symm.trans (Finset.mem_filter.mp h').2.1))
    have hu : ((tcOf c).loc cc0_scratch0 ↦[pS (zz c) k ∪ pS (oz c) k]{fullShare} f : sProp 𝕄)
        ⊣⊢ iprop(((tcOf c).loc cc0_scratch0 ↦[pS (zz c) k]{fullShare} f) ∗ (tcOf c).loc cc0_scratch0 ↦[pS (oz c) k]{fullShare} f) := pointsTo_union hd
    exact ⟨hu.1, hu.2⟩
  · intro k _ k' _ hk
    refine Finset.disjoint_left.mpr fun i h h' => hk (Fin.ext ?_)
    simp only [pS, Finset.mem_union, Finset.mem_filter, Finset.mem_univ, _root_.true_and] at h h'
    omega

omit [FloatOps F] in
theorem zAt_chunks (c : Dev nD) (f : (cc0_scratch1 : Ref sig .tc).ty.Contents (Elt F)) :
    (zAt c Finset.univ f : sProp 𝕄) = bigSep Finset.univ fun k => zAt c (zS k) f := by
  have e : (Finset.univ : Finset (Shape.Idx S512x1024)) = (Finset.univ : Finset (Fin 8)).biUnion zS := by
    ext i
    have h : (i 1).val < 1024 := (i 1).isLt
    simp only [zS, Finset.mem_univ, Finset.mem_biUnion, Finset.mem_filter, _root_.true_and, true_iff]
    exact ⟨⟨(i 1).val / 128, by omega⟩, rfl⟩
  unfold zAt
  rw [e, pointsTo_biUnion]
  intro k _ k' _ hk
  refine Finset.disjoint_left.mpr fun i h h' => hk (Fin.ext ?_)
  simp only [zS, Finset.mem_filter, Finset.mem_univ, _root_.true_and] at h h'
  omega

omit [FloatOps F] in
/-- The result, chunk by chunk, each in its four quadrants as device `c` sees them. -/
theorem oAt_chunks (c : Dev nD) (q : PosShare TreeShare) (f : (cc0_stg2_0 : Ref sig .tc).ty.Contents (Elt F)) :
    (oAt c Finset.univ q f : sProp 𝕄) = bigSep Finset.univ fun k => iprop(oAt c (oS (qq c) k) q f ∗ oAt c (oS (qq (xn c)) k) q f
      ∗ oAt c (oS (qq (yn c)) k) q f ∗ oAt c (oS (qq (xn (yn c))) k) q f) := by
  have e : (Finset.univ : Finset (Shape.Idx S512x4096)) = (Finset.univ : Finset (Fin 8 × Fin 4)).biUnion fun p => oS p.2 p.1 := by
    ext i
    have h : (i 1).val < 4096 := (i 1).isLt
    simp only [oS, Finset.mem_univ, Finset.mem_biUnion, Finset.mem_filter, _root_.true_and, true_iff]
    exact ⟨(⟨(i 1).val / 128 % 8, by omega⟩, ⟨(i 1).val / 1024, by omega⟩), by show (i 1).val / 128 = 8 * ((i 1).val / 1024) + (i 1).val / 128 % 8; omega⟩
  unfold oAt
  rw [e, pointsTo_biUnion, bigSep_univ_prod]
  · refine bigSep_congr fun k _ => ?_
    rw [bigSep_univ_eq_bigSepL [qq c, qq (xn c), qq (yn c), qq (xn (yn c))] (by revert c; decide) (quads_nodup c)]
    rfl
  · intro p _ p' _ hk
    refine Finset.disjoint_left.mpr fun i h h' => hk ?_
    simp only [oS, Finset.mem_filter, Finset.mem_univ, _root_.true_and] at h h'
    have := p.1.isLt; have := p'.1.isLt
    exact Prod.ext (Fin.ext (by omega)) (Fin.ext (by omega))

/-! ## Reading and writing blocks -/

theorem exists_emb {s : Shape} (r : Rect s) {i : s.Idx} (hi : i ∈ r.set) : ∃ j, r.emb j = i := by
  rw [← Rect.map_emb_univ] at hi
  obtain ⟨j, -, h⟩ := Finset.mem_map.mp hi
  exact ⟨j, h⟩

theorem pair_ext {d : Fin 2 → ℕ} {i j : (⟨2, d⟩ : Shape).Idx} (h0 : (i 0).val = (j 0).val) (h1 : (i 1).val = (j 1).val) : i = j :=
  funext fun a => by
    refine Fin.ext ?_
    fin_cases a
    · exact h0
    · exact h1

omit [FloatOps F] in
theorem pB_read (off h) (f : (cc0_scratch0 : Ref sig .tc).ty.Contents (Elt F)) (j : Shape.Idx S512x128) :
    (pB off h).view.read (Elt F) f j = f ((Rect.unit (s := S1024x1024) off S512x128.size h).emb j) := rfl
omit [FloatOps F] in
theorem zB_read (off h) (f : (cc0_scratch1 : Ref sig .tc).ty.Contents (Elt F)) (j : Shape.Idx S512x128) :
    (zB off h).view.read (Elt F) f j = f ((Rect.unit (s := S512x1024) off S512x128.size h).emb j) := rfl
omit [FloatOps F] in
theorem oB_read (off h) (f : (cc0_stg2_0 : Ref sig .tc).ty.Contents (Elt F)) (j : Shape.Idx S512x128) :
    (oB off h).view.read (Elt F) f j = f ((Rect.unit (s := S512x4096) off S512x128.size h).emb j) := rfl
omit [FloatOps F] in
theorem zB_write (off h) (f : (cc0_scratch1 : Ref sig .tc).ty.Contents (Elt F)) (w : Shape.Idx S512x128 → Elt F .f32) (j : Shape.Idx S512x128) :
    (zB off h).view.write (Elt F) f w Finset.univ ((Rect.unit (s := S512x1024) off S512x128.size h).emb j) = w j :=
  View.write_emb_of_mem (v := (zB off h).view) f w (Finset.mem_univ j)
omit [FloatOps F] in
theorem oB_write (off h) (f : (cc0_stg2_0 : Ref sig .tc).ty.Contents (Elt F)) (w : Shape.Idx S512x128 → Elt F .f32) (j : Shape.Idx S512x128) :
    (oB off h).view.write (Elt F) f w Finset.univ ((Rect.unit (s := S512x4096) off S512x128.size h).emb j) = w j :=
  View.write_emb_of_mem (v := (oB off h).view) f w (Finset.mem_univ j)

/-- A chunk of the half a device sends lands, at its partner, as what the partner is to receive. -/
theorem z_lands (c : Dev nD) (k : Fin 8) (offp offz : Fin 2 → ℕ) (hp hz) (ep : offp = ![512 * (oz c).val, 128 * k.val]) (ez : offz = ![0, 128 * k.val])
    (fd : (cc0_scratch1 : Ref sig .tc).ty.Contents (Elt F)) :
    ∀ i ∈ zS k, (zB offz hz).view.write (Elt F) fd ((pB offp hp).view.read (Elt F) (PC m c)) Finset.univ i = ZC m (zp c) i := by
  intro i hi
  rw [← zS_eq ez hz] at hi
  obtain ⟨j, rfl⟩ := exists_emb _ hi
  rw [zB_write, pB_read]
  unfold ZC; rw [zp_zp]
  subst ep ez
  refine congrArg (PC m c) (pair_ext ?_ ?_)
  · show 512 * (oz c).val + 1 * (j 0).val = 512 * (oz c).val + (0 + 1 * (j 0).val); omega
  · show 128 * k.val + 1 * (j 1).val = 128 * k.val + 1 * (j 1).val; rfl

omit [FloatOps F] in
/-- A block of the result lands in the same block as it was. -/
theorem o_lands (off : Fin 2 → ℕ) (h) (q : Fin 4) (k : Fin 8) (e : off = ![0, 1024 * q.val + 128 * k.val]) (f fd : (cc0_stg2_0 : Ref sig .tc).ty.Contents (Elt F)) :
    ∀ i ∈ oS q k, (oB off h).view.write (Elt F) fd ((oB off h).view.read (Elt F) f) Finset.univ i = f i := by
  intro i hi
  rw [← oS_eq e h] at hi
  obtain ⟨j, rfl⟩ := exists_emb _ hi
  rw [oB_write, oB_read]

/-- The sum of the two halves' chunk, stored in the device's own quadrant, is the result there. -/
theorem o_sum (c : Dev nD) (k : Fin 8) (offp offz offo : Fin 2 → ℕ) (hp hz ho) (ep : offp = ![512 * (zz c).val, 128 * k.val])
    (ez : offz = ![0, 128 * k.val]) (eo : offo = ![0, 1024 * (qq c).val + 128 * k.val]) (fd : (cc0_stg2_0 : Ref sig .tc).ty.Contents (Elt F)) :
    ∀ i ∈ oS (qq c) k, (oB offo ho).view.write (Elt F) fd
      (addf ((pB offp hp).view.read (Elt F) (PC m c)) ((zB offz hz).view.read (Elt F) (ZC m c)) : FVec F S512x128 .f32) Finset.univ i = OC m c i := by
  intro i hi
  rw [← oS_eq eo ho] at hi
  obtain ⟨j, rfl⟩ := exists_emb _ hi
  rw [oB_write]
  show FloatOps.addf _ _ = _
  rw [pB_read, zB_read]
  unfold OC OCr ZC
  subst ep ez eo
  have hj0 : (j 0).val < 512 := (j 0).isLt
  have hj1 : (j 1).val < 128 := (j 1).isLt
  have hk := k.isLt
  have eq : ∀ h, (⟨(((Rect.unit (s := S512x4096) ![0, 1024 * (qq c).val + 128 * k.val] S512x128.size ho).emb j) 1).val / 1024, h⟩ : Fin 4) = qq c := by
    intro h; refine Fin.ext ?_
    show (1024 * (qq c).val + 128 * k.val + 1 * (j 1).val) / 1024 = (qq c).val; omega
  have er : (((Rect.unit (s := S512x4096) ![0, 1024 * (qq c).val + 128 * k.val] S512x128.size ho).emb j) 1).val % 1024 = 128 * k.val + (j 1).val := by
    show (1024 * (qq c).val + 128 * k.val + 1 * (j 1).val) % 1024 = _; omega
  have e0 : (((Rect.unit (s := S512x4096) ![0, 1024 * (qq c).val + 128 * k.val] S512x128.size ho).emb j) 0).val = (j 0).val := by
    show 0 + 1 * (j 0).val = _; omega
  rw [eq, dv_qz]
  congr 2
  · refine pair_ext ?_ ?_
    · exact congrArg (512 * (zz c).val + ·) ((Nat.one_mul _).trans e0.symm)
    · exact (congrArg (128 * k.val + ·) (Nat.one_mul _)).trans er.symm
  · refine pair_ext ?_ ?_
    · exact congrArg (512 * (zz c).val + ·) (((Nat.zero_add _).trans (Nat.one_mul _)).trans e0.symm)
    · exact (congrArg (128 * k.val + ·) (Nat.one_mul _)).trans er.symm

/-! ## The four stores of the product -/

omit [FloatOps F] in
/-- What a store of `n` columns from column `off` on leaves at one of them. -/
theorem p_write {off n : ℕ} (hb : ∀ a, (![0, off] : Fin 2 → ℕ) a + (![1024, n] : Fin 2 → ℕ) a ≤ S1024x1024.size a) (f : (cc0_scratch0 : Ref sig .tc).ty.Contents (Elt F))
    (w : Shape.Idx ⟨2, ![1024, n]⟩ → Elt F .f32) (i : Shape.Idx S1024x1024) (h : off ≤ (i 1).val) (h' : (i 1).val - off < n) :
    ((pM.access (Rect.unit (s := S1024x1024) ![0, off] ![1024, n] hb)) : View sig .tc _ _ _).write (Elt F) f w Finset.univ i
      = w (Shape.pair (i 0) (⟨(i 1).val - off, h'⟩ : Fin n)) := by
  have e : i = (Rect.unit (s := S1024x1024) ![0, off] ![1024, n] hb).emb (Shape.pair (d := ![1024, n]) (i 0) (⟨(i 1).val - off, h'⟩ : Fin n)) := by
    refine pair_ext ?_ ?_
    · show (i 0).val = 0 + 1 * (i 0).val; omega
    · show (i 1).val = off + 1 * ((i 1).val - off); omega
  conv_lhs => rw [e]
  exact View.write_emb_of_mem (v := (pM.access (Rect.unit (s := S1024x1024) ![0, off] ![1024, n] hb))) f w (Finset.mem_univ _)

theorem p_store0 (c : Dev nD) (hb) (f : (cc0_scratch0 : Ref sig .tc).ty.Contents (Elt F)) :
    ∀ i ∈ colS {0}, (pM.access (Rect.unit (s := S1024x1024) ![0, 0] S1024x128.size hb) : View sig .tc _ _ _).write (Elt F) f (w0 m c) Finset.univ i = PC m c i := by
  intro i hi
  have h1 : (i 1).val < 128 := by simp [colS] at hi; omega
  refine (p_write hb f (w0 m c) i (Nat.zero_le _) (by omega)).trans ?_
  unfold PC; rw [dif_pos h1]; rfl
theorem p_store1 (c : Dev nD) (hb) (f : (cc0_scratch0 : Ref sig .tc).ty.Contents (Elt F)) :
    ∀ i ∈ colS {1}, (pM.access (Rect.unit (s := S1024x1024) ![0, 128] S1024x128.size hb) : View sig .tc _ _ _).write (Elt F) f (w1 m c) Finset.univ i = PC m c i := by
  intro i hi
  have h1 : 128 ≤ (i 1).val ∧ (i 1).val < 256 := by simp [colS] at hi; omega
  refine (p_write hb f (w1 m c) i h1.1 (by omega)).trans ?_
  unfold PC; rw [dif_neg (by omega), dif_pos h1.2]
theorem p_store2 (c : Dev nD) (hb) (f : (cc0_scratch0 : Ref sig .tc).ty.Contents (Elt F)) :
    ∀ i ∈ colS {2, 3}, (pM.access (Rect.unit (s := S1024x1024) ![0, 256] S1024x256.size hb) : View sig .tc _ _ _).write (Elt F) f (w2 m c) Finset.univ i = PC m c i := by
  intro i hi
  have h1 : 256 ≤ (i 1).val ∧ (i 1).val < 512 := by simp [colS] at hi; omega
  refine (p_write hb f (w2 m c) i h1.1 (by omega)).trans ?_
  unfold PC; rw [dif_neg (by omega), dif_neg (by omega), dif_pos h1.2]
theorem p_store3 (c : Dev nD) (hb) (f : (cc0_scratch0 : Ref sig .tc).ty.Contents (Elt F)) :
    ∀ i ∈ colS {4, 5, 6, 7}, (pM.access (Rect.unit (s := S1024x1024) ![0, 512] S1024x512.size hb) : View sig .tc _ _ _).write (Elt F) f (w3 m c) Finset.univ i = PC m c i := by
  intro i hi
  have h1 : 512 ≤ (i 1).val ∧ (i 1).val < 1024 := by simp [colS] at hi; omega
  refine (p_write hb f (w3 m c) i h1.1 (by omega)).trans ?_
  unfold PC; rw [dif_neg (by omega), dif_neg (by omega), dif_neg (by omega)]

end Cert.KernelIdealProof

end
-- ==== Proof.KernelIdeal.Protocol.lean ====
/-
# The protocol: what each semaphore's payments carry, what each device owes, in which order
-/
module

public import proofs.«01_k».proof.Proof.KernelIdeal.Pieces

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Which kinds of transfer a chunk has -/

set_option backward.proofsInPublic true in
/-- Even chunks are forwarded along `x` (kinds 6, 7), odd ones along `y` (kinds 8, 9); the other kinds are for all. -/
def used (a : Fin 10) (k : Fin 8) : Bool := match a with
  | 6 => k.val % 2 = 0 | 7 => k.val % 2 = 0
  | 8 => k.val % 2 = 1 | 9 => k.val % 2 = 1
  | _ => true

set_option backward.proofsInPublic true in
/-- The device that pays duty `d` of a cell `i` of device `c`, and whose cell `c` pays. -/
def nb (p : CI × Fin 3) (c : Dev nD) : Dev nD := match p.1 with
  | .inr (.inr (a, _)) => match a with
    | 1 => zp c
    | 3 => xn c | 7 => xn c
    | 5 => yn c | 9 => yn c
    | _ => c
  | _ => match p.2 with | 0 => zp c | 1 => xn c | 2 => yn c

theorem nb_cases (p : CI × Fin 3) : nb p = zp ∨ nb p = xn ∨ nb p = yn ∨ nb p = id := by
  rcases p with ⟨⟨⟩ | ⟨⟨⟩ | ⟨a, k⟩⟩, d⟩
  · fin_cases d
    exacts [.inl rfl, .inr (.inl rfl), .inr (.inr (.inl rfl))]
  · fin_cases d
    exacts [.inl rfl, .inr (.inl rfl), .inr (.inr (.inl rfl))]
  · fin_cases a
    exacts [.inr (.inr (.inr rfl)), .inl rfl, .inr (.inr (.inr rfl)), .inr (.inl rfl), .inr (.inr (.inr rfl)), .inr (.inr (.inl rfl)),
      .inr (.inr (.inr rfl)), .inr (.inl rfl), .inr (.inr (.inr rfl)), .inr (.inr (.inl rfl))]

theorem nb_nb (p : CI × Fin 3) (c : Dev nD) : nb p (nb p c) = c := by
  rcases nb_cases p with h | h | h | h <;> rw [h]
  exacts [zp_zp c, xn_xn c, yn_yn c, rfl]

def nbE (p : CI × Fin 3) : Dev nD ≃ Dev nD := ⟨nb p, nb p, nb_nb p, nb_nb p⟩

/-! ## The payloads -/

/-- A block of the result at any contents. -/
def oEx (c : Dev nD) (q : Fin 4) (k : Fin 8) : sProp 𝕄 := iprop(∃ f, oAt c (oS q k) fullShare f)
def zEx (c : Dev nD) (k : Fin 8) : sProp 𝕄 := iprop(∃ f, zAt c (zS k) f)

/-- What a transfer's cell of device `c` hands its waiter: for a send, the block that left; for a receive, the block filled. -/
def payD (c : Dev nD) (a : Fin 10) (k : Fin 8) : sProp 𝕄 := match a with
  | 0 => pAt c (pS (oz c) k) (PC m c)
  | 1 => zAt c (zS k) (ZC m c)
  | 2 => oAt c (oS (qq c) k) fullShare.left (OC m c)
  | 3 => oAt c (oS (qq (xn c)) k) fullShare (OC m c)
  | 4 => oAt c (oS (qq c) k) fullShare.right (OC m c)
  | 5 => oAt c (oS (qq (yn c)) k) fullShare (OC m c)
  | 6 => oAt c (oS (qq (yn c)) k) fullShare (OC m c)
  | 7 => oAt c (oS (qq (xn (yn c))) k) fullShare (OC m c)
  | 8 => oAt c (oS (qq (xn c)) k) fullShare (OC m c)
  | 9 => oAt c (oS (qq (xn (yn c))) k) fullShare (OC m c)

/-- What the entry barrier hands device `c`, from each neighbour the blocks `c` is to write there: along `z` the whole
    buffer for the half product; along `x` and `y` the neighbour's blocks of `c`'s quadrant, and those of the other
    neighbour's quadrant in the chunks `c` forwards. -/
def payB (c : Dev nD) (d : Fin 3) : sProp 𝕄 := match d with
  | 0 => bigSep Finset.univ fun k => zEx (zp c) k
  | 1 => bigSep Finset.univ fun k => iprop(oEx (xn c) (qq c) k ∗ if k.val % 2 = 0 then oEx (xn c) (qq (yn c)) k else emp)
  | 2 => bigSep Finset.univ fun k => iprop(oEx (yn c) (qq c) k ∗ if k.val % 2 = 0 then emp else oEx (yn c) (qq (xn c)) k)

def payI (c : Dev nD) (i : CI) (d : Fin 3) : sProp 𝕄 := match i with
  | .inl _ => payB c d
  | .inr (.inl _) => iprop(emp)
  | .inr (.inr (a, k)) => payD m c a k

omit [FloatOps F] in
instance oEx_storable (c q k) : BI.Storable (upEmb : UEmb _ 𝕄) (oEx (F := F) c q k) := by unfold oEx; infer_instance
omit [FloatOps F] in
instance zEx_storable (c k) : BI.Storable (upEmb : UEmb _ 𝕄) (zEx (F := F) c k) := by unfold zEx; infer_instance
instance payD_storable (c a k) : BI.Storable (upEmb : UEmb _ 𝕄) (payD (F := F) m c a k) := by
  unfold payD; split <;> infer_instance
omit [FloatOps F] in
instance ite_storable (b : Prop) [Decidable b] (P Q : sProp 𝕄) [BI.Storable (upEmb : UEmb _ 𝕄) P] [BI.Storable (upEmb : UEmb _ 𝕄) Q] :
    BI.Storable (upEmb : UEmb _ 𝕄) (if b then P else Q) := by split <;> infer_instance
omit [FloatOps F] in
instance payB_storable (c d) : BI.Storable (upEmb : UEmb _ 𝕄) (payB (F := F) c d) := by
  unfold payB; split <;> infer_instance
instance payI_storable (c i d) : BI.Storable (upEmb : UEmb _ 𝕄) (payI (F := F) m c i d) := by
  unfold payI; split <;> infer_instance

/-! ## The schedule: one round; the barriers' cells have three duties, a transfer's one -/

def dutiesI : CI → Finset (Fin 3)
  | .inl _ => Finset.univ
  | .inr (.inl _) => Finset.univ
  | .inr (.inr (a, k)) => if used a k then {0} else ∅
def amountI : CI → ℕ
  | .inl _ => 1
  | .inr (.inl _) => 1
  | .inr (.inr _) => N
def expectI : CI → ℕ
  | .inl _ => 3
  | .inr (.inl _) => 3
  | .inr (.inr (a, k)) => if used a k then N else 0
theorem amountI_pos (i : CI) : 0 < amountI i := by
  rcases i with ⟨⟩ | ⟨⟨⟩ | p⟩
  exacts [Nat.one_pos, Nat.one_pos, N_pos]

def rd : Rounds.Schedule (GSem nD τ sig) (Fin 3) 𝕄 where
  duties g r := if r = 0 ∧ g.1.2 = .tc then ((idx? g.2).elim ∅ dutiesI) else ∅
  unitless _ := False
  amount g _ _ := (idx? g.2).elim 1 amountI
  payload g _ d := (idx? g.2).elim iprop(emp) fun i => payI m g.1.1 i d
  amount_pos g _ _ _ := by
    rcases idx? g.2 with _ | i
    exacts [Nat.one_pos, amountI_pos i]

instance rd_payload_storable (g : GSem nD τ sig) (r : ℕ) (d : Fin 3) :
    BI.Storable (upEmb : UEmb _ 𝕄) ((rd (F := F) m).payload g r d) := by
  show BI.Storable upEmb ((idx? g.2).elim iprop(emp) fun i => payI m g.1.1 i d)
  rcases idx? g.2 with _ | i
  · show BI.Storable upEmb (iprop(emp) : sProp 𝕄); infer_instance
  · show BI.Storable upEmb (payI m g.1.1 i d); infer_instance

theorem duties_cell (p : Dev nD × CI) : (rd (F := F) m).duties (kcell p) 0 = dutiesI p.2 := by
  show (if 0 = 0 ∧ (kcell p).1.2 = .tc then ((idx? (csem p.2)).elim ∅ dutiesI) else ∅) = _
  rw [idx_csem, if_pos ⟨rfl, rfl⟩]; rfl
theorem duties_later (g : GSem nD τ sig) : ∀ r, 1 ≤ r → (rd (F := F) m).duties g r = ∅ :=
  fun r hr => by dsimp only [rd]; rw [if_neg fun h => by omega]
theorem amount_cell (p : Dev nD × CI) (d : Fin 3) : (rd (F := F) m).amount (kcell p) 0 d = amountI p.2 := by
  show (idx? (csem p.2)).elim 1 amountI = _
  rw [idx_csem]; rfl
theorem payload_cell (p : Dev nD × CI) (d : Fin 3) : (rd (F := F) m).payload (kcell p) 0 d = payI m p.1 p.2 d := by
  show (idx? (csem p.2)).elim iprop(emp) (fun i => payI m p.1 i d) = _
  rw [idx_csem]; rfl
theorem expect_cell (p : Dev nD × CI) : (rd (F := F) m).expect (kcell p) 0 = expectI p.2 := by
  unfold Schedule.expect Schedule.amountOf
  rw [duties_cell, Finset.sum_congr rfl fun d _ => amount_cell m p d, Finset.sum_const, smul_eq_mul]
  rcases p with ⟨c, ⟨⟩ | ⟨⟨⟩ | ⟨a, k⟩⟩⟩
  · rfl
  · rfl
  · show (if used a k = true then ({0} : Finset (Fin 3)) else ∅).card * N = if used a k = true then N else 0
    split
    · rw [Finset.card_singleton, Nat.one_mul]
    · rw [Finset.card_empty, Nat.zero_mul]

/-- The whole payload of a used transfer's cell; of a barrier's. -/
theorem rest_dma (c : Dev nD) (a : Fin 10) (k : Fin 8) (hu : used a k = true) :
    bigSep ((rd (F := F) m).duties (kcell (c, dI a k)) 0 \ ∅) (fun d => (rd (F := F) m).payload (kcell (c, dI a k)) 0 d) = payD m c a k := by
  rw [Finset.sdiff_empty, duties_cell]
  show bigSep (if used a k = true then ({0} : Finset (Fin 3)) else ∅) _ = _
  rw [if_pos hu, bigSep_singleton, payload_cell]; rfl
theorem rest_bar (c : Dev nD) :
    bigSep ((rd (F := F) m).duties (kcell (c, bI)) 0 \ ∅) (fun d => (rd (F := F) m).payload (kcell (c, bI)) 0 d) = iprop(payB c 0 ∗ payB c 1 ∗ payB c 2) := by
  rw [Finset.sdiff_empty, duties_cell]
  show bigSep (Finset.univ : Finset (Fin 3)) _ = _
  rw [bigSep_univ_eq_bigSepL [0, 1, 2] (by decide) (by decide), bigSepL_cons_cons, bigSepL_cons_cons, bigSepL_singleton,
    payload_cell, payload_cell, payload_cell]
  rfl

/-! ## What a device owes: its payments in the order it makes them -/

set_option backward.proofsInPublic true in
/-- The `t`-th payment a device makes to another: the three entry signals, the eight half products, the result's chunks
    along `x` and `y` in turn, the eight forwards, the three exit signals. -/
def atm (t : ℕ) : CI × Fin 3 :=
  if t < 3 then (bI, Fin.ofNat 3 t)
  else if t < 11 then (dI 1 (Fin.ofNat 8 (t - 3)), 0)
  else if t < 27 then (dI (if (t - 11) % 2 = 0 then 3 else 5) (Fin.ofNat 8 ((t - 11) / 2)), 0)
  else if t < 35 then (dI (if (t - 27) % 2 = 0 then 7 else 9) (Fin.ofNat 8 (t - 27)), 0)
  else (eI, Fin.ofNat 3 (t - 35))

theorem atm_z : ∀ k : Fin 8, atm (3 + k.val) = (dI 1 k, 0) := by decide
theorem atm_x : ∀ k : Fin 8, atm (11 + 2 * k.val) = (dI 3 k, 0) := by decide
theorem atm_y : ∀ k : Fin 8, atm (12 + 2 * k.val) = (dI 5 k, 0) := by decide
theorem atm_f : ∀ k : Fin 8, atm (27 + k.val) = (dI (if k.val % 2 = 0 then 7 else 9) k, 0) := by decide

set_option backward.proofsInPublic true in
/-- The order of the waits: what is waited for comes before what is still owed then. -/
def lvI : CI → ℕ
  | .inl _ => 1
  | .inr (.inl _) => 5
  | .inr (.inr (a, _)) => match a with
    | 1 => 2 | 3 => 3 | 5 => 3 | 7 => 4 | 9 => 4
    | _ => 0

theorem lv_pos : ∀ t : Fin 38, 0 < lvI (atm t.val).1 := by decide
theorem lv_three : ∀ t : Fin 38, 3 ≤ t.val → 1 < lvI (atm t.val).1 := by decide
theorem lv_eleven : ∀ t : Fin 38, 11 ≤ t.val → 2 < lvI (atm t.val).1 := by decide
theorem lv_fwd : ∀ t : Fin 38, 27 ≤ t.val → 3 < lvI (atm t.val).1 := by decide
theorem lv_exit : ∀ t : Fin 38, 35 ≤ t.val → 4 < lvI (atm t.val).1 := by decide

/-- The cell of payment `t` of device `c`, and the payment as a tally. -/
abbrev cellT (c : Dev nD) (t : ℕ) : GSem nD τ sig := kcell (nb (atm t) c, (atm t).1)
def duesT (c : Dev nD) (t : ℕ) : CellTallies nD τ sig Unit := tallyAt (cellT c t) () (amountI (atm t).1)
/-- What device `c` still owes when it has made the first `n` payments. -/
def owed (c : Dev nD) (n : ℕ) : CellTallies nD τ sig Unit := ∑ t ∈ Finset.Ico n 38, duesT c t

theorem owed_step (c : Dev nD) (n : ℕ) (h : n < 38) : owed c n = owed c (n + 1) + duesT c n := by
  have e : Finset.Ico n 38 = insert n (Finset.Ico (n + 1) 38) := by ext t; rw [Finset.mem_insert, Finset.mem_Ico, Finset.mem_Ico]; omega
  unfold owed; rw [e, Finset.sum_insert (fun hm => by rw [Finset.mem_Ico] at hm; omega), add_comm]
theorem owed_done (c : Dev nD) : owed c 38 = 0 := by
  unfold owed; rw [Finset.Ico_self, Finset.sum_empty]

theorem owed_pos {c : Dev nD} {n : ℕ} {g : GSem nD τ sig} {u : Unit} (h : 0 < owed c n g u) :
    ∃ t : Fin 38, n ≤ t.val ∧ g = cellT c t.val := by
  unfold owed at h
  rw [Finset.sum_apply, Finsupp.finset_sum_apply] at h
  obtain ⟨t, ht, hp⟩ := Finset.exists_ne_zero_of_sum_ne_zero (Nat.pos_iff_ne_zero.mp h)
  rw [Finset.mem_Ico] at ht
  exact ⟨⟨t, ht.2⟩, ht.1, (Pipeline.tallyAt_pos (Nat.pos_of_ne_zero hp)).1⟩

def L (g : GSem nD τ sig) : Finset Unit := if g.1.2 = .tc then {()} else ∅
def lv (g : GSem nD τ sig) (_ : Unit) : ℕ := (idx? g.2).elim 0 lvI

theorem L_of_ne (g : GSem nD τ sig) (h : g.1.2 ≠ .tc) : L g = ∅ := if_neg h
theorem mem_L (c : Dev nD) (sm : SemLoc sig) (u : Unit) : u ∈ L (tcOf c, sm) := by
  unfold L; rw [if_pos rfl]; exact Finset.mem_singleton_self _
theorem lv_cell (p : Dev nD × CI) (u : Unit) : lv (kcell p) u = lvI p.2 := by
  show (idx? (csem p.2)).elim 0 lvI = _
  rw [idx_csem]; rfl

omit [FloatOps F] in
/-- A wait is allowed when everything still owed has a higher level. -/
theorem may_wait (c : Dev nD) (sm : SemLoc sig) (n b : ℕ) (hs : lv (tcOf c, sm) () ≤ b) (hn : ∀ t : Fin 38, n ≤ t.val → b < lvI (atm t.val).1) :
    (levAts L lv : sProp 𝕄) ⊢ MayWait (tcOf c) sm () (owed c n) :=
  MayOwe.of_cut (L := L) (lev := lv) b (fun p hp => mem_L c _ _)
    (fun g u hg => by obtain ⟨t, -, rfl⟩ := owed_pos hg; exact mem_L _ _ _)
    (fun p hp => by rw [Finset.mem_singleton.mp hp]; exact hs)
    (fun g u hg => by obtain ⟨t, ht, rfl⟩ := owed_pos hg; rw [lv_cell]; exact hn t ht)

end Cert.KernelIdealProof

end
-- ==== Proof.KernelIdeal.Steps.lean ====
/-
# One signal, one wait, one transfer
-/
module

public import proofs.«01_k».proof.Proof.KernelIdeal.Protocol

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none
abbrev PR (F : FTy → Type) (α : Type) : Type 1 := Prog (TpuEff nD τ sig (Elt F) Λ₀ .tc) α
/-- The weakest precondition of a kernel's program on device `c`. -/
abbrev WP {α : Type} (c : Dev nD) (p : PR F α) (Q : α → sProp 𝕄) : sProp 𝕄 := wp frame (wpE (defs₀ (F := F)) 𝒱₀ (tcOf c) none) Set.univ p Q

/-! ## What every step may use, and what a device carries from step to step -/

/-- Every cell's invariant and its first round reached, and the levels. -/
def recs (K : Dev nD × CI → ℕ) : sProp 𝕄 :=
  iprop((bigSep Finset.univ fun p : Dev nD × CI => iprop(cellInv ER (rd m) (K p) (kcell p) ∗ reached ER (kcell p) 0)) ∗ levAts L lv)

instance recs_persistent (K) : BI.Persistent (recs (F := F) m K) := by unfold recs; infer_instance

theorem recs_cell (K : Dev nD × CI → ℕ) (p : Dev nD × CI) : recs m K ⊢ iprop(cellInv ER (rd m) (K p) (kcell p) ∗ reached ER (kcell p) 0) := by
  unfold recs
  have h : (bigSep Finset.univ fun p : Dev nD × CI => iprop(cellInv ER (rd m) (K p) (kcell p) ∗ reached ER (kcell p) 0) : sProp 𝕄) ⊢ _ :=
    bigSep_elim (Finset.mem_univ p)
  iintro ⟨H, -⟩
  iapply h; iexact H
theorem recs_lev (K : Dev nD × CI → ℕ) : recs m K ⊢ levAts L lv := by
  unfold recs; iintro ⟨-, H⟩; iexact H

/-- What device `c` still owes after `n` payments. -/
def Ow (c : Dev nD) (n : ℕ) : sProp 𝕄 := iprop(∃ W, owes (tcOf c) (owed c n) W)
/-- The right to make payment `d` of a cell; the place in the cell's rounds; the credit its transfer is waited with. -/
abbrev tok (p : Dev nD × CI) (d : Fin 3) : sProp 𝕄 := dutyTok ER (kcell p) 0 d
abbrev pos (p : Dev nD × CI) : sProp 𝕄 := atPos ER (kcell p) 0 ∅ 0
abbrev crd (c : Dev nD) (a : Fin 10) (k : Fin 8) : sProp 𝕄 := cred (tallyAt (kcell (c, dI a k)) () N)
abbrev val (p : Dev nD × CI) : sProp 𝕄 := semVal (kcell p) 0

/-! ## One signal, one wait, one transfer -/

theorem signal (K : Dev nD × CI → ℕ) (c n : Dev nD) (t : ℕ) (h38 : t < 38) (i : CI) (d : Fin 3) (s : Sem sig) (hs : csem i = .reg s)
    (ht : atm t = (i, d)) (hn : n = nb (i, d) c) (hd : d ∈ dutiesI i) (ha : amountI i = 1) {α : Type} {Q : α → sProp 𝕄} {k : PUnit → PR F α} :
    iprop(recs m K ∗ Ow c t ∗ tok (nb (i, d) c, i) d ∗ payI m (nb (i, d) c) i d)
      ⊢ iprop((Ow c (t + 1) -∗ WP c (k ⟨⟩) Q) -∗ WP c (.op (.semSignal (tcOf n) s ((1 : ℕ) : Int)) k) Q) := by
  subst hn
  unfold Ow
  iintro ⟨#Hr, ⟨%W, HO⟩, Ht, Hp⟩ Hk
  ihave Hc := (recs_cell m K (nb (i, d) c, i)) $$ Hr
  icases Hc with ⟨#Hi, #Hre⟩
  have hg : kcell (nb (i, d) c, i) = (tcOf (nb (i, d) c), .reg s) := by show (_, csem i) = _; rw [hs]
  have hD : duesT c t = tallyAt (tcOf (nb (i, d) c), .reg s) () 1 := by
    unfold duesT cellT; rw [ht, hg, ha]
  rw [hg, owed_step c t h38, hD]
  have e1 := duties_cell m (nb (i, d) c, i)
  have e2 := amount_cell m (nb (i, d) c, i) d
  have e3 := payload_cell m (nb (i, d) c, i) d
  rw [hg] at e1 e2 e3
  iapply (Rounds.wp_signal 𝒱₀ ER (rd m) (tcOf c) none (dst := tcOf (nb (i, d) c)) (sem := s) (r := 0) (k' := 1) (κ := K (nb (i, d) c, i))
      (d := d) (by rw [e1]; exact hd) (e2.trans ha) () (owed c (t + 1)) rfl) $$ [HO Ht Hp]
  · isplitr; · iexact Hi
    isplitl [HO]; · iexact HO
    isplitl [Ht]; · rw [← hg]; iexact Ht
    isplitl [Hp]; · rw [e3]; iexact Hp
    iexact Hre
  iintro HO
  iapply Hk
  iexists W; iexact HO

/-- A wait for a transfer's cell, closing it: what the transfer carried, and the counter at zero. -/
theorem wait_dma (K : Dev nD × CI → ℕ) (c : Dev nD) (n b : ℕ) (a : Fin 10) (k : Fin 8) (hu : used a k = true) (hb : lvI (dI a k) ≤ b)
    (hlv : ∀ t : Fin 38, n ≤ t.val → b < lvI (atm t.val).1) {dst : Memref sig .tc .vmem S512x128 .f32} {hm : Proc.tc = Proc.tc ∨ dst.view.ref.HasMemref S512x128 .f32}
    (hN : dst.view.dmaCredit = N)
    {α : Type} {Q : α → sProp 𝕄} {k' : PUnit → PR F α} :
    iprop(recs m K ∗ crd c a k ∗ Ow c n ∗ pos (c, dI a k))
      ⊢ iprop(((Ow c n ∗ val (c, dI a k) ∗ payD m c a k) -∗ WP c (k' ⟨⟩) Q)
          -∗ WP c (.op (.waitDma (dsem (a, k)) dst.view.ref S512x128 .f32 hm) k') Q) := by
  unfold Ow
  iintro ⟨#Hr, Hc, ⟨%W, HO⟩, Hp⟩ Hk
  ihave Hc' := (recs_cell m K (c, dI a k)) $$ Hr
  icases Hc' with ⟨#Hi, -⟩
  iapply (Rounds.wp_wait_rest_token 𝒱₀ ER (rd m) (tcOf c) none (κ := K (c, dI a k)) (sm := .dma (dsem (a, k))) (k' := dst.view.dmaCredit)
      (fun _ => rfl) (Set.mem_univ _) () (O := owed c n) (W := W) (R := 0) (m := 0) (T := ∅)
      (by rw [Nat.zero_add, hN]; exact ((expect_cell m (c, dI a k)).trans (if_pos hu)).symm)) $$ [Hc HO Hp]
  · isplitr; · iexact Hi
    isplitl [Hc]; · rw [hN]; iexact Hc
    isplitl [HO]; · iexact HO
    isplitr
    · iapply (may_wait c (.dma (dsem (a, k))) n b (le_trans (le_of_eq (lv_cell (c, dI a k) ())) hb) hlv)
      iapply (recs_lev m K); iexact Hr
    iexact Hp
  iintro ⟨HO, Hat, -, Hpay⟩
  ihave Hpay := (show (bigSep ((rd m).duties (tcOf c, .dma (dsem (a, k))) 0 \ ∅) fun d => (rd m).payload (tcOf c, .dma (dsem (a, k))) 0 d) ⊢ payD m c a k from Entails.of_eq (rest_dma m c a k hu)) $$ Hpay
  imod (Rounds.cell_close ER (rd m) (Set.mem_univ (K (c, dI a k))) (fun h => h) (R := 0 + 1) (duties_later m (kcell (c, dI a k)))) $$ [Hat] with Hz
  · isplitr; · iexact Hi
    iexact Hat
  iapply Hk
  isplitl [HO]; · iexists _; iexact HO
  isplitl [Hz] <;> iassumption

/-- A cell no transfer uses closes at once. -/
theorem close_unused (K : Dev nD × CI → ℕ) (c : Dev nD) (a : Fin 10) (k : Fin 8) (hu : used a k = false) :
    iprop(recs m K ∗ pos (c, dI a k)) ⊢ |={Set.univ}=> val (c, dI a k) := by
  iintro ⟨#Hr, Hp⟩
  ihave Hc' := (recs_cell m K (c, dI a k)) $$ Hr
  icases Hc' with ⟨#Hi, -⟩
  iapply (Rounds.cell_close ER (rd m) (Set.mem_univ (K (c, dI a k))) (fun h => h) (R := 0) (fun r hr => by
    rcases r with _ | r
    · rw [duties_cell]; show (if used a k = true then _ else ∅) = _; rw [hu]; rfl
    · exact duties_later m _ _ (Nat.succ_le_succ (Nat.zero_le r))))
  isplitr; · iexact Hi
  iexact Hp

/-- A transfer of one block to a neighbour: it leaves the block in flight, the wait's credit, and one payment fewer owed. -/
theorem send (K : Dev nD × CI → ℕ) (c n : Dev nD) (t : ℕ) (h38 : t < 38) (aS aR : Fin 10) (k : Fin 8) (ht : atm t = (dI aR k, 0))
    (hn : n = nb (dI aR k, 0) c) (uS : used aS k = true) (uR : used aR k = true)
    {src : Memref sig .tc .vmem S512x128 .f32} {dst : Memref sig (Dev.tc n : Thread nD τ).2.kind .vmem S512x128 .f32}
    {hsc : dst.view.ref.isScScratch = false} {hsrc : src.view.WordExact} {hdst : dst.view.WordExact}
    {hsem : DmaTarget.Typed (p := Proc.tc) .vmem (.dma (dsem (aR, k))) (.remote (Dev.tc n : Thread nD τ) dst (.dma (dsem (aS, k))) hsc)}
    {q : PosShare TreeShare} {fs : Buf (Elt F) (src.view.loc (tcOf c))} {fd : Buf (Elt F) (dst.view.loc (tcOf n))}
    (hN : dst.view.dmaCredit = N)
    (h1 : (src.view.loc (tcOf c) ↦[src.view.set]{q} fs : sProp 𝕄) ⊢ payD m c aS k)
    (h2 : (dst.view.loc (tcOf n) ↦[dst.view.set]{fullShare} (dst.view.write (Elt F) fd (src.view.read (Elt F) fs) Finset.univ) : sProp 𝕄) ⊢ payD m n aR k)
    {α : Type} {Q : α → sProp 𝕄} {k' : PUnit → PR F α} :
    iprop(recs m K ∗ (src.view.loc (tcOf c) ↦[src.view.set]{q} fs) ∗ (dst.view.loc (tcOf n) ↦[dst.view.set]{fullShare} fd) ∗ Ow c t
        ∗ tok (c, dI aS k) 0 ∗ tok (n, dI aR k) 0)
      ⊢ iprop(((crd c aS k ∗ Ow c (t + 1)) -∗ WP c (k' ⟨⟩) Q)
          -∗ WP c (.op (.enqueueDma src (.remote (Dev.tc n : Thread nD τ) dst (.dma (dsem (aS, k))) hsc) (.dma (dsem (aR, k))) hsrc hdst hsem) k') Q) := by
  unfold Ow
  iintro ⟨#Hr, Hs, Hd, ⟨%W, HO⟩, HtS, HtR⟩ Hk
  ihave Hc := (recs_cell m K (c, dI aS k)) $$ Hr
  icases Hc with ⟨#HiS, #HrS⟩
  ihave Hc := (recs_cell m K (n, dI aR k)) $$ Hr
  icases Hc with ⟨#HiR, #HrR⟩
  have hD : duesT c t = tallyAt (kcell (n, dI aR k)) () N := by
    unfold duesT cellT; rw [ht, hn]; rfl
  rw [owed_step c t h38, hD]
  iapply (Rounds.wp_send_pointsTo 𝒱₀ ER (rd m) (tcOf c) none (c' := tcOf n) (κ₁ := K (c, dI aS k)) (κ₂ := K (n, dI aR k))
    (r₁ := 0) (r₂ := 0) (d₁ := 0) (d₂ := 0) (sS := .dma (dsem (aS, k))) (sem := .dma (dsem (aR, k))) (fd := fd) (fs := fs) (q := q)
    (by rw [show (tcOf c, SemLoc.dma (dsem (aS, k))) = kcell (c, dI aS k) from rfl, duties_cell]
        show (0 : Fin 3) ∈ (if used aS k = true then ({0} : Finset (Fin 3)) else ∅)
        rw [if_pos uS]; exact Finset.mem_singleton_self _)
    (by rw [show (tcOf n, SemLoc.dma (dsem (aR, k))) = kcell (n, dI aR k) from rfl, duties_cell]
        show (0 : Fin 3) ∈ (if used aR k = true then ({0} : Finset (Fin 3)) else ∅)
        rw [if_pos uR]; exact Finset.mem_singleton_self _)
    () () N hN (amount_cell m (c, dI aS k) 0) (amount_cell m (n, dI aR k) 0) (owed c (t + 1)) rfl (W := W)
    (h1.trans (Entails.of_eq (payload_cell m (c, dI aS k) 0).symm))
    (h2.trans (Entails.of_eq (payload_cell m (n, dI aR k) 0).symm))) $$ [Hs Hd HO HtS HtR]
  · isplitr; · iexact HiS
    isplitr; · iexact HiR
    isplitl [Hs]; · iexact Hs
    isplitl [Hd]; · iexact Hd
    isplitl [HO]; · iexact HO
    isplitl [HtS]; · iexact HtS
    isplitr; · iexact HrS
    isplitl [HtR]; · iexact HtR
    iexact HrR
  iintro ⟨Hc, HO⟩
  iapply Hk
  isplitl [Hc]; · iexact Hc
  iexists W; iexact HO

end Cert.KernelIdealProof

end
-- ==== Proof.KernelIdeal.Phases.lean ====
/-
# A chunk's phases: the half product sent, the sum formed and sent on, the neighbours' blocks received and forwarded
-/
module

public import proofs.«01_k».proof.Proof.KernelIdeal.Steps

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The blocks' places -/

omit [FloatOps F] in
theorem pB_set {off r k} (e : off = ![512 * r.val, 128 * k.val]) (h) : (pB off h).view.set = pS r k := by
  rw [← pS_eq e h]; exact View.set_slice_whole _ _
omit [FloatOps F] in
theorem zB_set {off k} (e : off = ![0, 128 * k.val]) (h) : (zB off h).view.set = zS k := by
  rw [← zS_eq e h]; exact View.set_slice_whole _ _
omit [FloatOps F] in
theorem oB_set {off q k} (e : off = ![0, 1024 * q.val + 128 * k.val]) (h) : (oB off h).view.set = oS q k := by
  rw [← oS_eq e h]; exact View.set_slice_whole _ _

/-! ## Transfers of the product's and of the result's blocks -/

/-- A chunk of the half product sent along `z`. -/
theorem send_z (K : Dev nD × CI → ℕ) (c n : Dev nD) (k : Fin 8) (hn : n = zp c)
    {offp offz : Fin 2 → ℕ} {hp hz} (ep : offp = ![512 * (oz c).val, 128 * k.val]) (ez : offz = ![0, 128 * k.val])
    {hsc : (zB offz hz).view.ref.isScScratch = false} {hsrc : (pB offp hp).view.WordExact} {hdst : (zB offz hz).view.WordExact}
    {hsem : DmaTarget.Typed (p := Proc.tc) .vmem (.dma (dsem (1, k))) (.remote (Dev.tc n : Thread nD τ) (zB offz hz) (.dma (dsem (0, k))) hsc)}
    {α : Type} {Q : α → sProp 𝕄} {k' : PUnit → PR F α} :
    iprop(recs m K ∗ pAt c (pS (oz c) k) (PC m c) ∗ zEx (zp c) k ∗ Ow c (3 + k.val) ∗ tok (c, dI 0 k) 0 ∗ tok (zp c, dI 1 k) 0)
      ⊢ iprop(((crd c 0 k ∗ Ow c (4 + k.val)) -∗ WP c (k' ⟨⟩) Q)
          -∗ WP c (.op (.enqueueDma (pB offp hp) (.remote (Dev.tc n : Thread nD τ) (zB offz hz) (.dma (dsem (0, k))) hsc) (.dma (dsem (1, k))) hsrc hdst hsem) k') Q) := by
  subst hn
  unfold zEx pAt zAt
  iintro ⟨#Hr, Hs, ⟨%fd, Hd⟩, HO, HtS, HtR⟩ Hk
  rw [show 4 + k.val = (3 + k.val) + 1 by omega]
  have hk := k.isLt
  iapply (send m K c (zp c) (3 + k.val) (by omega) 0 1 k (atm_z k) rfl rfl rfl (src := pB offp hp) (dst := zB offz hz) (hsc := hsc)
    (q := fullShare) (fs := PC m c) (fd := fd) rfl
    (by rw [pB_set ep hp]; exact Entails.of_eq rfl)
    (by rw [zB_set ez hz]
        exact Entails.of_eq (pointsTo_congr (z_lands m c k offp offz hp hz ep ez fd)))) $$ [Hs Hd HO HtS HtR]
  · isplitr; · iexact Hr
    isplitl [Hs]; · rw [pB_set ep hp]; iexact Hs
    isplitl [Hd]; · rw [zB_set ez hz]; iexact Hd
    isplitl [HO]; · iexact HO
    isplitl [HtS]; · iexact HtS
    iexact HtR
  iintro H
  iapply Hk; iexact H

/-- A finished block of the result sent to a neighbour that keeps the same half, in its place. -/
theorem send_o (K : Dev nD × CI → ℕ) (c n : Dev nD) (t : ℕ) (h38 : t < 38) (aS aR : Fin 10) (k : Fin 8) (ht : atm t = (dI aR k, 0))
    (hn : n = nb (dI aR k, 0) c) (uS : used aS k = true) (uR : used aR k = true) (q0 : Fin 4) (q : PosShare TreeShare)
    {off : Fin 2 → ℕ} {h} (e : off = ![0, 1024 * q0.val + 128 * k.val])
    (h1 : payD m c aS k = oAt c (oS q0 k) q (OC m c)) (h2 : payD m n aR k = oAt n (oS q0 k) fullShare (OC m c))
    {hsc : (oB off h).view.ref.isScScratch = false} {hsrc : (oB off h).view.WordExact} {hdst : (oB off h).view.WordExact}
    {hsem : DmaTarget.Typed (p := Proc.tc) .vmem (.dma (dsem (aR, k))) (.remote (Dev.tc n : Thread nD τ) (oB off h) (.dma (dsem (aS, k))) hsc)}
    {α : Type} {Q : α → sProp 𝕄} {k' : PUnit → PR F α} :
    iprop(recs m K ∗ oAt c (oS q0 k) q (OC m c) ∗ oEx n q0 k ∗ Ow c t ∗ tok (c, dI aS k) 0 ∗ tok (n, dI aR k) 0)
      ⊢ iprop(((crd c aS k ∗ Ow c (t + 1)) -∗ WP c (k' ⟨⟩) Q)
          -∗ WP c (.op (.enqueueDma (oB off h) (.remote (Dev.tc n : Thread nD τ) (oB off h) (.dma (dsem (aS, k))) hsc) (.dma (dsem (aR, k))) hsrc hdst hsem) k') Q) := by
  unfold oEx oAt
  iintro ⟨#Hr, Hs, ⟨%fd, Hd⟩, HO, HtS, HtR⟩ Hk
  iapply (send m K c n t h38 aS aR k ht hn uS uR (src := oB off h) (dst := oB off h) (hsc := hsc)
    (q := q) (fs := OC m c) (fd := fd) rfl
    (by rw [oB_set e h, h1]; exact Entails.of_eq rfl)
    (by rw [oB_set e h, h2]
        exact Entails.of_eq (pointsTo_congr (o_lands off h q0 k e (OC m c) fd)))) $$ [Hs Hd HO HtS HtR]
  · isplitr; · iexact Hr
    isplitl [Hs]; · rw [oB_set e h]; iexact Hs
    isplitl [Hd]; · rw [oB_set e h]; iexact Hd
    isplitl [HO]; · iexact HO
    isplitl [HtS]; · iexact HtS
    iexact HtR
  iintro H
  iapply Hk; iexact H

/-! ## A chunk's life: what a device holds for it after each phase -/

set_option backward.proofsInPublic true in
/-- The kinds of the chunk's forward: its send and its receive; the two kinds the chunk does not use. -/
def fS (k : Fin 8) : Fin 10 := if k.val % 2 = 0 then 6 else 8
set_option backward.proofsInPublic true in
def fR (k : Fin 8) : Fin 10 := if k.val % 2 = 0 then 7 else 9
set_option backward.proofsInPublic true in
def gS (k : Fin 8) : Fin 10 := if k.val % 2 = 0 then 8 else 6
set_option backward.proofsInPublic true in
def gR (k : Fin 8) : Fin 10 := if k.val % 2 = 0 then 9 else 7
set_option backward.proofsInPublic true in
/-- The neighbour the chunk is forwarded to and from, and the one whose block is forwarded. -/
def fn (k : Fin 8) (c : Dev nD) : Dev nD := if k.val % 2 = 0 then xn c else yn c
set_option backward.proofsInPublic true in
def fo (k : Fin 8) (c : Dev nD) : Dev nD := if k.val % 2 = 0 then yn c else xn c

theorem fS_used : ∀ k, used (fS k) k = true := by decide
theorem fR_used : ∀ k, used (fR k) k = true := by decide
theorem gS_used : ∀ k, used (gS k) k = false := by decide
theorem gR_used : ∀ k, used (gR k) k = false := by decide
theorem fR_nb : ∀ k c, nb (dI (fR k) k, 0) c = fn k c := by decide
theorem fn_fo : ∀ k c, fo k (fn k c) = xn (yn c) := by decide
theorem fn_fn : ∀ k c, fn k (fn k c) = c := by decide
theorem OC_fn (k c) : OC m (fn k c) = OC m c := by unfold fn; split; exacts [OC_xn m c, OC_yn m c]
theorem pay_0 (c : Dev nD) (k : Fin 8) : payD m c 0 k = pAt c (pS (oz c) k) (PC m c) := rfl
theorem pay_1 (c : Dev nD) (k : Fin 8) : payD m c 1 k = zAt c (zS k) (ZC m c) := rfl
theorem pay_2 (c : Dev nD) (k : Fin 8) : payD m c 2 k = oAt c (oS (qq c) k) fullShare.left (OC m c) := rfl
theorem pay_3 (c : Dev nD) (k : Fin 8) : payD m c 3 k = oAt c (oS (qq (xn c)) k) fullShare (OC m c) := rfl
theorem pay_4 (c : Dev nD) (k : Fin 8) : payD m c 4 k = oAt c (oS (qq c) k) fullShare.right (OC m c) := rfl
theorem pay_5 (c : Dev nD) (k : Fin 8) : payD m c 5 k = oAt c (oS (qq (yn c)) k) fullShare (OC m c) := rfl
theorem pay_fS (c : Dev nD) (k : Fin 8) : payD m c (fS k) k = oAt c (oS (qq (fo k c)) k) fullShare (OC m c) := by
  unfold fS fo; split <;> rfl
theorem pay_fR (c : Dev nD) (k : Fin 8) : payD m c (fR k) k = oAt c (oS (qq (xn (yn c))) k) fullShare (OC m c) := by
  unfold fR; split <;> rfl

/-- Before its first transfer. -/
def S0 (c : Dev nD) (k : Fin 8) : sProp 𝕄 :=
  iprop((pos (c, dI 0 k) ∗ pos (c, dI 1 k) ∗ pos (c, dI 2 k) ∗ pos (c, dI 3 k) ∗ pos (c, dI 4 k) ∗ pos (c, dI 5 k) ∗ pos (c, dI (fS k) k) ∗ pos (c, dI (fR k) k))
    ∗ (tok (c, dI 0 k) 0 ∗ tok (zp c, dI 1 k) 0)
    ∗ (tok (c, dI 2 k) 0 ∗ tok (xn c, dI 3 k) 0 ∗ tok (c, dI 4 k) 0 ∗ tok (yn c, dI 5 k) 0) ∗ (tok (c, dI (fS k) k) 0 ∗ tok (fn k c, dI (fR k) k) 0)
    ∗ (crd c 1 k ∗ crd c 3 k ∗ crd c 5 k ∗ crd c (fR k) k)
    ∗ oEx c (qq c) k ∗ zEx (zp c) k ∗ oEx (xn c) (qq c) k ∗ oEx (yn c) (qq c) k ∗ oEx (fn k c) (qq (fo k c)) k)
/-- After the half product's chunk has left. -/
def S1 (c : Dev nD) (k : Fin 8) : sProp 𝕄 :=
  iprop((pos (c, dI 0 k) ∗ pos (c, dI 1 k) ∗ pos (c, dI 2 k) ∗ pos (c, dI 3 k) ∗ pos (c, dI 4 k) ∗ pos (c, dI 5 k) ∗ pos (c, dI (fS k) k) ∗ pos (c, dI (fR k) k))
    ∗ (tok (c, dI 2 k) 0 ∗ tok (xn c, dI 3 k) 0 ∗ tok (c, dI 4 k) 0 ∗ tok (yn c, dI 5 k) 0) ∗ (tok (c, dI (fS k) k) 0 ∗ tok (fn k c, dI (fR k) k) 0)
    ∗ (crd c 1 k ∗ crd c 3 k ∗ crd c 5 k ∗ crd c (fR k) k) ∗ crd c 0 k
    ∗ oEx c (qq c) k ∗ oEx (xn c) (qq c) k ∗ oEx (yn c) (qq c) k ∗ oEx (fn k c) (qq (fo k c)) k ∗ pAt c (pS (zz c) k) (PC m c))
/-- After the chunk of the result is formed and has left along `x` and `y`. -/
def S2 (c : Dev nD) (k : Fin 8) : sProp 𝕄 :=
  iprop((pos (c, dI 0 k) ∗ pos (c, dI 2 k) ∗ pos (c, dI 3 k) ∗ pos (c, dI 4 k) ∗ pos (c, dI 5 k) ∗ pos (c, dI (fS k) k) ∗ pos (c, dI (fR k) k))
    ∗ (tok (c, dI (fS k) k) 0 ∗ tok (fn k c, dI (fR k) k) 0)
    ∗ (crd c 3 k ∗ crd c 5 k ∗ crd c (fR k) k) ∗ (crd c 0 k ∗ crd c 2 k ∗ crd c 4 k) ∗ val (c, dI 1 k)
    ∗ oEx (fn k c) (qq (fo k c)) k ∗ pAt c (pS (zz c) k) (PC m c) ∗ zAt c (zS k) (ZC m c))
/-- After both neighbours' chunks have come and one of them has left again. -/
def S3 (c : Dev nD) (k : Fin 8) : sProp 𝕄 :=
  iprop((pos (c, dI 0 k) ∗ pos (c, dI 2 k) ∗ pos (c, dI 4 k) ∗ pos (c, dI (fS k) k) ∗ pos (c, dI (fR k) k))
    ∗ crd c (fR k) k ∗ (crd c 0 k ∗ crd c 2 k ∗ crd c 4 k ∗ crd c (fS k) k) ∗ (val (c, dI 1 k) ∗ val (c, dI 3 k) ∗ val (c, dI 5 k))
    ∗ pAt c (pS (zz c) k) (PC m c) ∗ zAt c (zS k) (ZC m c) ∗ oAt c (oS (qq (fn k c)) k) fullShare (OC m c))
/-- After the diagonal device's chunk has come. -/
def S4 (c : Dev nD) (k : Fin 8) : sProp 𝕄 :=
  iprop((pos (c, dI 0 k) ∗ pos (c, dI 2 k) ∗ pos (c, dI 4 k) ∗ pos (c, dI (fS k) k))
    ∗ (crd c 0 k ∗ crd c 2 k ∗ crd c 4 k ∗ crd c (fS k) k) ∗ (val (c, dI 1 k) ∗ val (c, dI 3 k) ∗ val (c, dI 5 k) ∗ val (c, dI (fR k) k))
    ∗ pAt c (pS (zz c) k) (PC m c) ∗ zAt c (zS k) (ZC m c) ∗ oAt c (oS (qq (fn k c)) k) fullShare (OC m c)
    ∗ oAt c (oS (qq (xn (yn c))) k) fullShare (OC m c))
/-- When all its transfers are over: every counter at zero, every block back. -/
def S5 (c : Dev nD) (k : Fin 8) : sProp 𝕄 :=
  iprop((val (c, dI 0 k) ∗ val (c, dI 1 k) ∗ val (c, dI 2 k) ∗ val (c, dI 3 k) ∗ val (c, dI 4 k) ∗ val (c, dI 5 k) ∗ val (c, dI (fS k) k) ∗ val (c, dI (fR k) k))
    ∗ (pAt c (pS (zz c) k) (PC m c) ∗ pAt c (pS (oz c) k) (PC m c)) ∗ zAt c (zS k) (ZC m c)
    ∗ oAt c (oS (qq c) k) fullShare (OC m c) ∗ oAt c (oS (qq (xn c)) k) fullShare (OC m c) ∗ oAt c (oS (qq (yn c)) k) fullShare (OC m c)
    ∗ oAt c (oS (qq (xn (yn c))) k) fullShare (OC m c))

/-! ## The phases -/

/-- The half product's chunk leaves. -/
theorem phaseA (K : Dev nD × CI → ℕ) (c n : Dev nD) (k : Fin 8) (hn : n = zp c)
    {offp offz : Fin 2 → ℕ} {hp hz} (ep : offp = ![512 * (oz c).val, 128 * k.val]) (ez : offz = ![0, 128 * k.val])
    {hsc : (zB offz hz).view.ref.isScScratch = false} {hsrc : (pB offp hp).view.WordExact} {hdst : (zB offz hz).view.WordExact}
    {hsem : DmaTarget.Typed (p := Proc.tc) .vmem (.dma (dsem (1, k))) (.remote (Dev.tc n : Thread nD τ) (zB offz hz) (.dma (dsem (0, k))) hsc)}
    {α : Type} {Q : α → sProp 𝕄} {k' : PUnit → PR F α} :
    iprop(recs m K ∗ S0 c k ∗ (pAt c (pS (zz c) k) (PC m c) ∗ pAt c (pS (oz c) k) (PC m c)) ∗ Ow c (3 + k.val))
      ⊢ iprop(((S1 m c k ∗ Ow c (4 + k.val)) -∗ WP c (k' ⟨⟩) Q)
          -∗ WP c (.op (.enqueueDma (pB offp hp) (.remote (Dev.tc n : Thread nD τ) (zB offz hz) (.dma (dsem (0, k))) hsc) (.dma (dsem (1, k))) hsrc hdst hsem) k') Q) := by
  unfold S0 S1
  iintro ⟨#Hr, ⟨Hpos, ⟨Ht0, Ht1⟩, Ht2, Ht3, Hcr, Ho, Hz, Hox, Hoy, Hof⟩, ⟨Hpz, Hpo⟩, HO⟩ Hk
  iapply (send_z m K c n k hn ep ez) $$ [Hpo Hz HO Ht0 Ht1]
  · isplitr; · iexact Hr
    isplitl [Hpo]; · iexact Hpo
    isplitl [Hz]; · iexact Hz
    isplitl [HO]; · iexact HO
    isplitl [Ht0]; · iexact Ht0
    iexact Ht1
  iintro ⟨Hc0, HO⟩
  iapply Hk
  isplitr [HO]
  · isplitl [Hpos]; · iexact Hpos
    isplitl [Ht2]; · iexact Ht2
    isplitl [Ht3]; · iexact Ht3
    isplitl [Hcr]; · iexact Hcr
    isplitl [Hc0]; · iexact Hc0
    isplitl [Ho]; · iexact Ho
    isplitl [Hox]; · iexact Hox
    isplitl [Hoy]; · iexact Hoy
    isplitl [Hof]; · iexact Hof
    iexact Hpz
  iexact HO

/-- The partner's chunk comes, is added to the device's own, and the sum leaves along `x` and along `y`. -/
theorem phaseB (K : Dev nD × CI → ℕ) (c n₁ n₂ : Dev nD) (k : Fin 8) (hn₁ : n₁ = xn c) (hn₂ : n₂ = yn c)
    {offp offw offz offo offs : Fin 2 → ℕ} {hp hw hz ho hs} (ep : offp = ![512 * (zz c).val, 128 * k.val]) (ez : offz = ![0, 128 * k.val])
    (eo : offo = ![0, 1024 * (qq c).val + 128 * k.val]) (es : offs = ![0, 1024 * (qq c).val + 128 * k.val])
    {hm : Proc.tc = Proc.tc ∨ (zB offw hw).view.ref.HasMemref S512x128 .f32}
    {l1 : pM.view.LoadsAt (Rect.unit (s := S1024x1024) offp S512x128.size hp).toLoadRect} {l2 : zM.view.LoadsAt (Rect.unit (s := S512x1024) offz S512x128.size hz).toLoadRect}
    {l3 : oM.view.LoadsAt (Rect.unit (s := S512x4096) offo S512x128.size ho).toLoadRect}
    {s1 : (oM.access (Rect.unit (s := S512x4096) offo S512x128.size ho)).Stores Finset.univ}
    {s2 : (Finset.univ : Finset (Rect.unit (s := S512x4096) offo S512x128.size ho).shape.Idx) = Finset.univ ∨ ∀ a, (Rect.unit (s := S512x4096) offo S512x128.size ho).stride a = 1}
    {hsc : (oB offs hs).view.ref.isScScratch = false} {hsrc : (oB offs hs).view.WordExact} {hdst : (oB offs hs).view.WordExact}
    {hsem₁ : DmaTarget.Typed (p := Proc.tc) .vmem (.dma (dsem (3, k))) (.remote (Dev.tc n₁ : Thread nD τ) (oB offs hs) (.dma (dsem (2, k))) hsc)}
    {hsem₂ : DmaTarget.Typed (p := Proc.tc) .vmem (.dma (dsem (5, k))) (.remote (Dev.tc n₂ : Thread nD τ) (oB offs hs) (.dma (dsem (4, k))) hsc)}
    {α : Type} {Q : α → sProp 𝕄} {k' : PUnit → PR F α} :
    iprop(recs m K ∗ S1 m c k ∗ Ow c (11 + 2 * k.val))
      ⊢ iprop(((S2 m c k ∗ Ow c (13 + 2 * k.val)) -∗ WP c (k' ⟨⟩) Q)
          -∗ WP c (.op (.waitDma (dsem (1, k)) (zB offw hw).view.ref S512x128 .f32 hm) fun _ =>
            .op (.load pM (Rect.unit (s := S1024x1024) offp S512x128.size hp).toLoadRect l1 : TpuEff nD τ sig (Elt F) Λ₀ .tc (Shape.Idx S512x128 → Elt F .f32)) fun v =>
            .op (.load zM (Rect.unit (s := S512x1024) offz S512x128.size hz).toLoadRect l2 : TpuEff nD τ sig (Elt F) Λ₀ .tc (Shape.Idx S512x128 → Elt F .f32)) fun w =>
            .op (.load oM (Rect.unit (s := S512x4096) offo S512x128.size ho).toLoadRect l3 : TpuEff nD τ sig (Elt F) Λ₀ .tc (Shape.Idx S512x128 → Elt F .f32)) fun _ =>
            .op (.store oM (Rect.unit (s := S512x4096) offo S512x128.size ho) (addf v w) Finset.univ s1 s2) fun _ =>
            .op (.enqueueDma (oB offs hs) (.remote (Dev.tc n₁ : Thread nD τ) (oB offs hs) (.dma (dsem (2, k))) hsc) (.dma (dsem (3, k))) hsrc hdst hsem₁) fun _ =>
            .op (.enqueueDma (oB offs hs) (.remote (Dev.tc n₂ : Thread nD τ) (oB offs hs) (.dma (dsem (4, k))) hsc) (.dma (dsem (5, k))) hsrc hdst hsem₂) k') Q) := by
  subst hn₁ hn₂
  have hk := k.isLt
  unfold S1 S2
  iintro ⟨#Hr, ⟨⟨P0, P1, P2, P3, P4, P5, PS, PR⟩, ⟨Ht2, Ht3, Ht4, Ht5⟩, Htf, ⟨Hc1, Hcr⟩, Hc0, Ho, Hox, Hoy, Hof, Hpz⟩, HO⟩ Hk
  iapply (wait_dma m K c (11 + 2 * k.val) 2 1 k rfl (Nat.le_refl 2) (fun t ht => lv_eleven t (by omega)) (dst := zB offw hw) rfl) $$ [Hc1 HO P1]
  · isplitr; · iexact Hr
    isplitl [Hc1]; · iexact Hc1
    isplitl [HO]; · iexact HO
    iexact P1
  iintro ⟨HO, V1, Hz⟩
  ihave Hz := (Entails.of_eq (pay_1 m c k)) $$ Hz
  unfold oEx pAt zAt oAt
  icases Ho with ⟨%fd, Ho⟩
  iapply (wp_load_rect 𝒱₀ (tcOf c) none Set.univ (m := pM) (r := Rect.unit (s := S1024x1024) offp S512x128.size hp) (by rw [show (pM.access _).set = (pB offp hp).view.set from rfl, pB_set ep hp])) $$ Hpz; iintro Hpz
  iapply (wp_load_rect 𝒱₀ (tcOf c) none Set.univ (m := zM) (r := Rect.unit (s := S512x1024) offz S512x128.size hz) (by rw [show (zM.access _).set = (zB offz hz).view.set from rfl, zB_set ez hz])) $$ Hz; iintro Hz
  iapply (wp_load_rect 𝒱₀ (tcOf c) none Set.univ (m := oM) (r := Rect.unit (s := S512x4096) offo S512x128.size ho) (by rw [show (oM.access _).set = (oB offo ho).view.set from rfl, oB_set eo ho])) $$ Ho; iintro Ho
  iapply (wp_store 𝒱₀ (tcOf c) none Set.univ (m := oM) (r := Rect.unit (s := S512x4096) offo S512x128.size ho) (Mk := Finset.univ) (by rw [View.setOn_univ, show (oM.access _).set = (oB offo ho).view.set from rfl, oB_set eo ho])) $$ Ho; iintro Ho
  ihave Ho := (Entails.of_eq (pointsTo_congr (o_sum m c k offp offz offo hp hz ho ep ez eo fd))) $$ Ho
  ihave Ho := (show ((tcOf c).loc cc0_stg2_0 ↦[oS (qq c) k]{fullShare} (OC m c) : sProp 𝕄) ⊢ _ from (pointsTo_share (PosShare.mem_left_op_right fullShare)).1) $$ Ho
  icases Ho with ⟨Hl, Hrt⟩
  iapply (send_o m K c (xn c) (11 + 2 * k.val) (by omega) 2 3 k (atm_x k) rfl rfl rfl (qq c) fullShare.left es rfl
    (by show oAt (xn c) (oS (qq (xn (xn c))) k) fullShare (OC m (xn c)) = _; rw [xn_xn, OC_xn])) $$ [Hl Hox HO Ht2 Ht3]
  · unfold oAt oEx oAt
    isplitr; · iexact Hr
    isplitl [Hl]; · iexact Hl
    isplitl [Hox]; · iexact Hox
    isplitl [HO]; · iexact HO
    isplitl [Ht2]; · iexact Ht2
    iexact Ht3
  iintro ⟨Hc2, HO⟩
  rw [show 11 + 2 * k.val + 1 = 12 + 2 * k.val by omega]
  iapply (send_o m K c (yn c) (12 + 2 * k.val) (by omega) 4 5 k (atm_y k) rfl rfl rfl (qq c) fullShare.right es rfl
    (by show oAt (yn c) (oS (qq (yn (yn c))) k) fullShare (OC m (yn c)) = _; rw [yn_yn, OC_yn])) $$ [Hrt Hoy HO Ht4 Ht5]
  · unfold oAt oEx oAt
    isplitr; · iexact Hr
    isplitl [Hrt]; · iexact Hrt
    isplitl [Hoy]; · iexact Hoy
    isplitl [HO]; · iexact HO
    isplitl [Ht4]; · iexact Ht4
    iexact Ht5
  iintro ⟨Hc4, HO⟩
  rw [show 12 + 2 * k.val + 1 = 13 + 2 * k.val by omega]
  iapply Hk
  isplitr [HO]
  · isplitl [P0 P2 P3 P4 P5 PS PR]
    · isplitl [P0]; · iexact P0
      isplitl [P2]; · iexact P2
      isplitl [P3]; · iexact P3
      isplitl [P4]; · iexact P4
      isplitl [P5]; · iexact P5
      isplitl [PS] <;> iassumption
    isplitl [Htf]; · iexact Htf
    isplitl [Hcr]; · iexact Hcr
    isplitl [Hc0 Hc2 Hc4]
    · isplitl [Hc0]; · iexact Hc0
      isplitl [Hc2] <;> iassumption
    isplitl [V1]; · iexact V1
    isplitl [Hof]; · iexact Hof
    isplitl [Hpz] <;> iassumption
  iexact HO

/-- An even chunk: both neighbours' blocks come, then the `y` neighbour's leaves along `x`. -/
theorem phaseC_even (K : Dev nD × CI → ℕ) (c n : Dev nD) (k : Fin 8) (hk2 : k.val % 2 = 0) (hn : n = xn c)
    {offx offy : Fin 2 → ℕ} {hx hy} (ey : offy = ![0, 1024 * (qq (yn c)).val + 128 * k.val])
    {hmx : Proc.tc = Proc.tc ∨ (oB offx hx).view.ref.HasMemref S512x128 .f32} {hmy : Proc.tc = Proc.tc ∨ (oB offy hy).view.ref.HasMemref S512x128 .f32}
    {hsc : (oB offy hy).view.ref.isScScratch = false} {hsrc : (oB offy hy).view.WordExact} {hdst : (oB offy hy).view.WordExact}
    {hsem : DmaTarget.Typed (p := Proc.tc) .vmem (.dma (dsem (7, k))) (.remote (Dev.tc n : Thread nD τ) (oB offy hy) (.dma (dsem (6, k))) hsc)}
    {α : Type} {Q : α → sProp 𝕄} {k' : PUnit → PR F α} :
    iprop(recs m K ∗ S2 m c k ∗ Ow c (27 + k.val))
      ⊢ iprop(((S3 m c k ∗ Ow c (28 + k.val)) -∗ WP c (k' ⟨⟩) Q)
          -∗ WP c (.op (.waitDma (dsem (3, k)) (oB offx hx).view.ref S512x128 .f32 hmx) fun _ =>
            .op (.waitDma (dsem (5, k)) (oB offy hy).view.ref S512x128 .f32 hmy) fun _ =>
            .op (.enqueueDma (oB offy hy) (.remote (Dev.tc n : Thread nD τ) (oB offy hy) (.dma (dsem (6, k))) hsc) (.dma (dsem (7, k))) hsrc hdst hsem) k') Q) := by
  subst hn
  have hk := k.isLt
  have eS : fS k = 6 := if_pos hk2
  have eR : fR k = 7 := if_pos hk2
  have eN : fn k c = xn c := if_pos hk2
  have eO : fo k c = yn c := if_pos hk2
  unfold S2 S3
  rw [eS, eR, eN, eO]
  iintro ⟨#Hr, ⟨⟨P0, P2, P3, P4, P5, PS, PR⟩, ⟨HtS, HtR⟩, ⟨Hc3, Hc5, Hcf⟩, ⟨Hc0, Hc2, Hc4⟩, V1, Hof, Hpz, Hz⟩, HO⟩ Hk
  iapply (wait_dma m K c (27 + k.val) 3 3 k rfl (Nat.le_refl 3) (fun t ht => lv_fwd t (by omega)) (dst := oB offx hx) rfl) $$ [Hc3 HO P3]
  · isplitr; · iexact Hr
    isplitl [Hc3]; · iexact Hc3
    isplitl [HO]; · iexact HO
    iexact P3
  iintro ⟨HO, V3, Hx⟩
  ihave Hx := (Entails.of_eq (pay_3 m c k)) $$ Hx
  iapply (wait_dma m K c (27 + k.val) 3 5 k rfl (Nat.le_refl 3) (fun t ht => lv_fwd t (by omega)) (dst := oB offy hy) rfl) $$ [Hc5 HO P5]
  · isplitr; · iexact Hr
    isplitl [Hc5]; · iexact Hc5
    isplitl [HO]; · iexact HO
    iexact P5
  iintro ⟨HO, V5, Hy⟩
  ihave Hy := (Entails.of_eq (pay_5 m c k)) $$ Hy
  iapply (send_o m K c (xn c) (27 + k.val) (by omega) 6 7 k (by rw [atm_f, if_pos hk2]) rfl (eS ▸ fS_used k) (eR ▸ fR_used k) (qq (yn c)) fullShare ey rfl
    (by show oAt (xn c) (oS (qq (xn (yn (xn c)))) k) fullShare (OC m (xn c)) = _; rw [xn_yn, xn_xn, OC_xn])) $$ [Hy Hof HO HtS HtR]
  · isplitr; · iexact Hr
    isplitl [Hy]; · iexact Hy
    isplitl [Hof]; · iexact Hof
    isplitl [HO]; · iexact HO
    isplitl [HtS] <;> iassumption
  iintro ⟨HcS, HO⟩
  rw [show 27 + k.val + 1 = 28 + k.val by omega]
  iapply Hk
  isplitr [HO]
  · isplitl [P0 P2 P4 PS PR]
    · isplitl [P0]; · iexact P0
      isplitl [P2]; · iexact P2
      isplitl [P4]; · iexact P4
      isplitl [PS] <;> iassumption
    isplitl [Hcf]; · iexact Hcf
    isplitl [Hc0 Hc2 Hc4 HcS]
    · isplitl [Hc0]; · iexact Hc0
      isplitl [Hc2]; · iexact Hc2
      isplitl [Hc4] <;> iassumption
    isplitl [V1 V3 V5]
    · isplitl [V1]; · iexact V1
      isplitl [V3] <;> iassumption
    isplitl [Hpz]; · iexact Hpz
    isplitl [Hz]; · iexact Hz
    iexact Hx
  iexact HO

/-- An odd chunk: the `x` neighbour's block comes and leaves along `y`, then the `y` neighbour's comes. -/
theorem phaseC_odd (K : Dev nD × CI → ℕ) (c n : Dev nD) (k : Fin 8) (hk2 : ¬ k.val % 2 = 0) (hn : n = yn c)
    {offx offy : Fin 2 → ℕ} {hx hy} (ex : offx = ![0, 1024 * (qq (xn c)).val + 128 * k.val])
    {hmx : Proc.tc = Proc.tc ∨ (oB offx hx).view.ref.HasMemref S512x128 .f32} {hmy : Proc.tc = Proc.tc ∨ (oB offy hy).view.ref.HasMemref S512x128 .f32}
    {hsc : (oB offx hx).view.ref.isScScratch = false} {hsrc : (oB offx hx).view.WordExact} {hdst : (oB offx hx).view.WordExact}
    {hsem : DmaTarget.Typed (p := Proc.tc) .vmem (.dma (dsem (9, k))) (.remote (Dev.tc n : Thread nD τ) (oB offx hx) (.dma (dsem (8, k))) hsc)}
    {α : Type} {Q : α → sProp 𝕄} {k' : PUnit → PR F α} :
    iprop(recs m K ∗ S2 m c k ∗ Ow c (27 + k.val))
      ⊢ iprop(((S3 m c k ∗ Ow c (28 + k.val)) -∗ WP c (k' ⟨⟩) Q)
          -∗ WP c (.op (.waitDma (dsem (3, k)) (oB offx hx).view.ref S512x128 .f32 hmx) fun _ =>
            .op (.enqueueDma (oB offx hx) (.remote (Dev.tc n : Thread nD τ) (oB offx hx) (.dma (dsem (8, k))) hsc) (.dma (dsem (9, k))) hsrc hdst hsem) fun _ =>
            .op (.waitDma (dsem (5, k)) (oB offy hy).view.ref S512x128 .f32 hmy) k') Q) := by
  subst hn
  have hk := k.isLt
  have eS : fS k = 8 := if_neg hk2
  have eR : fR k = 9 := if_neg hk2
  have eN : fn k c = yn c := if_neg hk2
  have eO : fo k c = xn c := if_neg hk2
  unfold S2 S3
  rw [eS, eR, eN, eO]
  iintro ⟨#Hr, ⟨⟨P0, P2, P3, P4, P5, PS, PR⟩, ⟨HtS, HtR⟩, ⟨Hc3, Hc5, Hcf⟩, ⟨Hc0, Hc2, Hc4⟩, V1, Hof, Hpz, Hz⟩, HO⟩ Hk
  iapply (wait_dma m K c (27 + k.val) 3 3 k rfl (Nat.le_refl 3) (fun t ht => lv_fwd t (by omega)) (dst := oB offx hx) rfl) $$ [Hc3 HO P3]
  · isplitr; · iexact Hr
    isplitl [Hc3]; · iexact Hc3
    isplitl [HO]; · iexact HO
    iexact P3
  iintro ⟨HO, V3, Hx⟩
  ihave Hx := (Entails.of_eq (pay_3 m c k)) $$ Hx
  iapply (send_o m K c (yn c) (27 + k.val) (by omega) 8 9 k (by rw [atm_f, if_neg hk2]) rfl (eS ▸ fS_used k) (eR ▸ fR_used k) (qq (xn c)) fullShare ex rfl
    (by show oAt (yn c) (oS (qq (xn (yn (yn c)))) k) fullShare (OC m (yn c)) = _; rw [yn_yn, OC_yn])) $$ [Hx Hof HO HtS HtR]
  · isplitr; · iexact Hr
    isplitl [Hx]; · iexact Hx
    isplitl [Hof]; · iexact Hof
    isplitl [HO]; · iexact HO
    isplitl [HtS] <;> iassumption
  iintro ⟨HcS, HO⟩
  rw [show 27 + k.val + 1 = 28 + k.val by omega]
  iapply (wait_dma m K c (28 + k.val) 3 5 k rfl (Nat.le_refl 3) (fun t ht => lv_fwd t (by omega)) (dst := oB offy hy) rfl) $$ [Hc5 HO P5]
  · isplitr; · iexact Hr
    isplitl [Hc5]; · iexact Hc5
    isplitl [HO]; · iexact HO
    iexact P5
  iintro ⟨HO, V5, Hy⟩
  ihave Hy := (Entails.of_eq (pay_5 m c k)) $$ Hy
  iapply Hk
  isplitr [HO]
  · isplitl [P0 P2 P4 PS PR]
    · isplitl [P0]; · iexact P0
      isplitl [P2]; · iexact P2
      isplitl [P4]; · iexact P4
      isplitl [PS] <;> iassumption
    isplitl [Hcf]; · iexact Hcf
    isplitl [Hc0 Hc2 Hc4 HcS]
    · isplitl [Hc0]; · iexact Hc0
      isplitl [Hc2]; · iexact Hc2
      isplitl [Hc4] <;> iassumption
    isplitl [V1 V3 V5]
    · isplitl [V1]; · iexact V1
      isplitl [V3] <;> iassumption
    isplitl [Hpz]; · iexact Hpz
    isplitl [Hz]; · iexact Hz
    iexact Hy
  iexact HO

/-- The diagonal device's block comes. -/
theorem phaseD (K : Dev nD × CI → ℕ) (c : Dev nD) (k : Fin 8) (a : Fin 10) (ha : a = fR k) {off : Fin 2 → ℕ} {h}
    {hm : Proc.tc = Proc.tc ∨ (oB off h).view.ref.HasMemref S512x128 .f32}
    {α : Type} {Q : α → sProp 𝕄} {k' : PUnit → PR F α} :
    iprop(recs m K ∗ S3 m c k ∗ Ow c 35)
      ⊢ iprop(((S4 m c k ∗ Ow c 35) -∗ WP c (k' ⟨⟩) Q)
          -∗ WP c (.op (.waitDma (dsem (a, k)) (oB off h).view.ref S512x128 .f32 hm) k') Q) := by
  subst ha
  unfold S3 S4
  iintro ⟨#Hr, ⟨⟨P0, P2, P4, PS, PR⟩, Hcf, Hc, ⟨V1, V3, V5⟩, Hpz, Hz, Hof⟩, HO⟩ Hk
  iapply (wait_dma m K c 35 4 (fR k) k (fR_used k) (by revert k; decide) (fun t ht => lv_exit t ht) (dst := oB off h) rfl) $$ [Hcf HO PR]
  · isplitr; · iexact Hr
    isplitl [Hcf]; · iexact Hcf
    isplitl [HO]; · iexact HO
    iexact PR
  iintro ⟨HO, VR, Hd⟩
  iapply Hk
  isplitr [HO]
  · isplitl [P0 P2 P4 PS]
    · isplitl [P0]; · iexact P0
      isplitl [P2]; · iexact P2
      isplitl [P4] <;> iassumption
    isplitl [Hc]; · iexact Hc
    isplitl [V1 V3 V5 VR]
    · isplitl [V1]; · iexact V1
      isplitl [V3]; · iexact V3
      isplitl [V5] <;> iassumption
    isplitl [Hpz]; · iexact Hpz
    isplitl [Hz]; · iexact Hz
    isplitl [Hof]; · iexact Hof
    rw [← pay_fR]; iexact Hd
  iexact HO

/-- The chunk's four sends have all left: their blocks are back. -/
theorem phaseE (K : Dev nD × CI → ℕ) (c : Dev nD) (k : Fin 8) (a : Fin 10) (ha : a = fS k) {offz offo₁ offo₂ offf : Fin 2 → ℕ} {hz ho₁ ho₂ hf}
    {h0 : Proc.tc = Proc.tc ∨ (pB offz hz).view.ref.HasMemref S512x128 .f32} {h2 : Proc.tc = Proc.tc ∨ (oB offo₁ ho₁).view.ref.HasMemref S512x128 .f32}
    {h4 : Proc.tc = Proc.tc ∨ (oB offo₂ ho₂).view.ref.HasMemref S512x128 .f32} {h6 : Proc.tc = Proc.tc ∨ (oB offf hf).view.ref.HasMemref S512x128 .f32}
    {α : Type} {Q : α → sProp 𝕄} {k' : PUnit → PR F α} :
    iprop(recs m K ∗ S4 m c k ∗ Ow c 35)
      ⊢ iprop(((S5 m c k ∗ Ow c 35) -∗ WP c (k' ⟨⟩) Q)
          -∗ WP c (.op (.waitDma (dsem (0, k)) (pB offz hz).view.ref S512x128 .f32 h0) fun _ =>
            .op (.waitDma (dsem (2, k)) (oB offo₁ ho₁).view.ref S512x128 .f32 h2) fun _ =>
            .op (.waitDma (dsem (4, k)) (oB offo₂ ho₂).view.ref S512x128 .f32 h4) fun _ =>
            .op (.waitDma (dsem (a, k)) (oB offf hf).view.ref S512x128 .f32 h6) k') Q) := by
  subst ha
  have hl : ∀ t : Fin 38, 35 ≤ t.val → 0 < lvI (atm t.val).1 := fun t _ => lv_pos t
  unfold S4 S5
  iintro ⟨#Hr, ⟨⟨P0, P2, P4, PS⟩, ⟨Hc0, Hc2, Hc4, HcS⟩, ⟨V1, V3, V5, VR⟩, Hpz, Hz, Hof, Hd⟩, HO⟩ Hk
  iapply (wait_dma m K c 35 0 0 k rfl (Nat.le_refl 0) hl (dst := pB offz hz) rfl) $$ [Hc0 HO P0]
  · isplitr; · iexact Hr
    isplitl [Hc0]; · iexact Hc0
    isplitl [HO] <;> iassumption
  iintro ⟨HO, V0, Hpo⟩
  ihave Hpo := (Entails.of_eq (pay_0 m c k)) $$ Hpo
  iapply (wait_dma m K c 35 0 2 k rfl (Nat.le_refl 0) hl (dst := oB offo₁ ho₁) rfl) $$ [Hc2 HO P2]
  · isplitr; · iexact Hr
    isplitl [Hc2]; · iexact Hc2
    isplitl [HO] <;> iassumption
  iintro ⟨HO, V2, Hl⟩
  ihave Hl := (Entails.of_eq (pay_2 m c k)) $$ Hl
  iapply (wait_dma m K c 35 0 4 k rfl (Nat.le_refl 0) hl (dst := oB offo₂ ho₂) rfl) $$ [Hc4 HO P4]
  · isplitr; · iexact Hr
    isplitl [Hc4]; · iexact Hc4
    isplitl [HO] <;> iassumption
  iintro ⟨HO, V4, Hrt⟩
  ihave Hrt := (Entails.of_eq (pay_4 m c k)) $$ Hrt
  iapply (wait_dma m K c 35 0 (fS k) k (fS_used k) (by revert k; decide) hl (dst := oB offf hf) rfl) $$ [HcS HO PS]
  · isplitr; · iexact Hr
    isplitl [HcS]; · iexact HcS
    isplitl [HO] <;> iassumption
  iintro ⟨HO, VS, Hoo⟩
  ihave Hoo := (Entails.of_eq (pay_fS m c k)) $$ Hoo
  have hj : iprop(oAt c (oS (qq c) k) fullShare.left (OC m c) ∗ oAt c (oS (qq c) k) fullShare.right (OC m c)) ⊢ (oAt c (oS (qq c) k) fullShare (OC m c) : sProp 𝕄) := by
    unfold oAt; exact (pointsTo_share (PosShare.mem_left_op_right fullShare)).2
  ihave Ho := hj $$ [Hl Hrt]
  · isplitl [Hl]; · iexact Hl
    iexact Hrt
  have hxy : iprop(oAt c (oS (qq (fn k c)) k) fullShare (OC m c) ∗ oAt c (oS (qq (fo k c)) k) fullShare (OC m c))
      ⊢ (iprop(oAt c (oS (qq (xn c)) k) fullShare (OC m c) ∗ oAt c (oS (qq (yn c)) k) fullShare (OC m c)) : sProp 𝕄) := by
    unfold fn fo
    split
    · exact Entails.of_eq rfl
    · iintro ⟨A, B⟩; isplitl [B] <;> iassumption
  ihave Hxy := hxy $$ [Hof Hoo]
  · isplitl [Hof] <;> iassumption
  icases Hxy with ⟨Hx, Hy⟩
  iapply Hk
  isplitr [HO]
  · isplitl [V0 V1 V2 V3 V4 V5 VS VR]
    · isplitl [V0]; · iexact V0
      isplitl [V1]; · iexact V1
      isplitl [V2]; · iexact V2
      isplitl [V3]; · iexact V3
      isplitl [V4]; · iexact V4
      isplitl [V5]; · iexact V5
      isplitl [VS] <;> iassumption
    isplitl [Hpz Hpo]
    · isplitl [Hpz]; · iexact Hpz
      iexact Hpo
    isplitl [Hz]; · iexact Hz
    isplitl [Ho]; · iexact Ho
    isplitl [Hx]; · iexact Hx
    isplitl [Hy] <;> iassumption
  iexact HO

end Cert.KernelIdealProof

end
-- ==== Proof.KernelIdeal.Deal.lean ====
/-
# What a device is dealt, chunk by chunk, and what its chunks leave
-/
module

public import proofs.«01_k».proof.Proof.KernelIdeal.Phases

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## A device's semaphores, chunk by chunk -/

theorem kinds : ∀ k : Fin 8, (Finset.univ : Finset (Fin 10)) = [0, 1, 2, 3, 4, 5, fS k, fR k, gS k, gR k].toFinset := by decide
theorem kinds_nodup : ∀ k : Fin 8, [(0 : Fin 10), 1, 2, 3, 4, 5, fS k, fR k, gS k, gR k].Nodup := by decide

/-- A chunk's ten kinds in the order the proof keeps them: the eight it uses, then the two it does not. -/
def byKind (Φ : Fin 10 → sProp 𝕄) (k : Fin 8) : sProp 𝕄 :=
  iprop((Φ 0 ∗ Φ 1 ∗ Φ 2 ∗ Φ 3 ∗ Φ 4 ∗ Φ 5 ∗ Φ (fS k) ∗ Φ (fR k)) ∗ (Φ (gS k) ∗ Φ (gR k)))

omit [FloatOps F] in
theorem byKind_eq (Φ : Fin 10 → sProp 𝕄) (k : Fin 8) : bigSep Finset.univ Φ = byKind Φ k := by
  rw [bigSep_univ_eq_bigSepL [0, 1, 2, 3, 4, 5, fS k, fR k, gS k, gR k] (kinds k) (kinds_nodup k)]
  simp only [bigSepL_cons_cons, bigSepL_singleton]
  unfold byKind
  have assoc (P Q R : sProp 𝕄) : iprop((P ∗ Q) ∗ R) = iprop(P ∗ Q ∗ R) := BI.sep_assoc.antisymm BI.sep_assoc'
  simp only [assoc]
  rfl

omit [FloatOps F] in
theorem sep8 (Φ Ψ : Fin 8 → sProp 𝕄) : (bigSep Finset.univ fun k => iprop(Φ k ∗ Ψ k)) = iprop(bigSep Finset.univ Φ ∗ bigSep Finset.univ Ψ) := bigSep_sep' _ _ _

omit [FloatOps F] in
/-- Each part of eight separately. -/
theorem mono8 {Φ Ψ : Fin 8 → sProp 𝕄} (h : ∀ k, Φ k ⊢ Ψ k) : bigSep Finset.univ Φ ⊢ bigSep Finset.univ Ψ := bigSep_mono fun k _ => h k

omit [FloatOps F] in
theorem ci_split (Φ : CI → sProp 𝕄) :
    bigSep Finset.univ Φ = iprop(Φ bI ∗ Φ eI ∗ bigSep Finset.univ fun k => byKind (fun a => Φ (dI a k)) k) := by
  rw [bigSep_univ_sum, bigSep_univ_sum, bigSep_univ_equiv (Equiv.prodComm (Fin 8) (Fin 10)) (fun b : Fin 10 × Fin 8 => Φ (.inr (.inr b))), bigSep_univ_prod,
    show (Finset.univ : Finset Unit) = {()} from rfl, bigSep_singleton, bigSep_singleton,
    bigSep_congr (s := (Finset.univ : Finset (Fin 8))) fun k _ => (byKind_eq (fun a => Φ (dI a k)) k).symm]
  rfl

/-! ## The launch's credits, chunk by chunk -/

set_option backward.proofsInPublic true in
/-- The payments' places in the order they are made: the two barriers' six, and four for each chunk. -/
def place (p : Fin 6 ⊕ (Fin 8 × Fin 4)) : Fin 38 := match p with
  | .inl j => if h : j.val < 3 then ⟨j.val, by omega⟩ else ⟨j.val + 32, by omega⟩
  | .inr (k, 0) => ⟨3 + k.val, by omega⟩
  | .inr (k, 1) => ⟨11 + 2 * k.val, by omega⟩
  | .inr (k, 2) => ⟨12 + 2 * k.val, by omega⟩
  | .inr (k, 3) => ⟨27 + k.val, by omega⟩

set_option maxRecDepth 8000 in
theorem place_inj : Function.Injective place := by decide
theorem place_bij : Function.Bijective place :=
  (Fintype.bijective_iff_injective_and_card place).mpr ⟨place_inj, by decide⟩

omit [FloatOps F] in
theorem bySteps (Φ : ℕ → sProp 𝕄) : bigSep (Finset.Ico 0 38) Φ
    = iprop((Φ 0 ∗ Φ 1 ∗ Φ 2 ∗ Φ 35 ∗ Φ 36 ∗ Φ 37) ∗ bigSep Finset.univ fun k : Fin 8 => iprop(Φ (3 + k.val) ∗ Φ (11 + 2 * k.val) ∗ Φ (12 + 2 * k.val) ∗ Φ (27 + k.val))) := by
  have e : Finset.Ico 0 38 = (Finset.univ : Finset (Fin 38)).map Fin.valEmbedding := by decide
  rw [e, bigSep_map, bigSep_univ_equiv (Equiv.ofBijective place place_bij) (fun t : Fin 38 => Φ (Fin.valEmbedding t)), bigSep_univ_sum, bigSep_univ_prod,
    bigSep_univ_eq_bigSepL [0, 1, 2, 3, 4, 5] (by decide) (by decide)]
  simp only [bigSepL_cons_cons, bigSepL_singleton]
  rw [bigSep_congr (s := (Finset.univ : Finset (Fin 8))) fun k _ => bigSep_univ_eq_bigSepL [0, 1, 2, 3] (by decide) (by decide) _]
  simp only [bigSepL_cons_cons, bigSepL_singleton]
  rfl

/-! ## What a device starts its body with, and what each chunk needs of it -/

/-- The ghost state dealt to device `c`: its place in every cell of its own, the right to every payment it makes, the
    credit of everything it is to be sent. -/
def dealt (c : Dev nD) : sProp 𝕄 :=
  iprop((bigSep Finset.univ fun i => pos (c, i)) ∗ (bigSep Finset.univ fun q : CI × Fin 3 => tok (nb q c, q.1) q.2)
    ∗ bigSep (Finset.Ico 0 38) fun t => cred (tallyAt (kcell (c, (atm t).1)) () (amountI (atm t).1)))

/-- A chunk's part of it. -/
def G0 (c : Dev nD) (k : Fin 8) : sProp 𝕄 :=
  iprop(((pos (c, dI 0 k) ∗ pos (c, dI 1 k) ∗ pos (c, dI 2 k) ∗ pos (c, dI 3 k) ∗ pos (c, dI 4 k) ∗ pos (c, dI 5 k) ∗ pos (c, dI (fS k) k) ∗ pos (c, dI (fR k) k)) ∗ (pos (c, dI (gS k) k) ∗ pos (c, dI (gR k) k)))
    ∗ ((tok (c, dI 0 k) 0 ∗ tok (zp c, dI 1 k) 0)
      ∗ (tok (c, dI 2 k) 0 ∗ tok (xn c, dI 3 k) 0 ∗ tok (c, dI 4 k) 0 ∗ tok (yn c, dI 5 k) 0) ∗ (tok (c, dI (fS k) k) 0 ∗ tok (fn k c, dI (fR k) k) 0))
    ∗ (crd c 1 k ∗ crd c 3 k ∗ crd c 5 k ∗ crd c (fR k) k))

/-- A barrier's part: its place, the three payments to the neighbours, the three units coming. -/
def GB (c : Dev nD) (i : CI) : sProp 𝕄 :=
  iprop(pos (c, i) ∗ (tok (zp c, i) 0 ∗ tok (xn c, i) 1 ∗ tok (yn c, i) 2) ∗ cred (tallyAt (kcell (c, i)) () 3))

omit [FloatOps F] in
theorem three_units (g : GSem nD τ sig) :
    iprop(cred (tallyAt g () 1) ∗ cred (tallyAt g () 1) ∗ cred (tallyAt g () 1)) ⊢ (cred (tallyAt g () 3) : sProp 𝕄) := by
  rw [show (tallyAt g () 3 : CellTallies nD τ sig Unit) = tallyAt g () 1 + (tallyAt g () 1 + tallyAt g () 1) by rw [tallyAt_add, tallyAt_add]]
  exact (sep_mono_right (cred_add _ _).2).trans (cred_add _ _).2

theorem fS_nb : ∀ k c, nb (dI (fS k) k, 0) c = c := by decide

omit [FloatOps F] in
theorem tok_first (c : Dev nD) (i : CI) : (bigSep Finset.univ fun d : Fin 3 => tok (nb (i, d) c, i) d : sProp 𝕄) ⊢ tok (nb (i, 0) c, i) 0 :=
  bigSep_elim (Finset.mem_univ 0)
omit [FloatOps F] in
theorem tok_all (c : Dev nD) (i : CI) (h0 : nb (i, 0) c = zp c) (h1 : nb (i, 1) c = xn c) (h2 : nb (i, 2) c = yn c) :
    (bigSep Finset.univ fun d : Fin 3 => tok (nb (i, d) c, i) d : sProp 𝕄) ⊢ iprop(tok (zp c, i) 0 ∗ tok (xn c, i) 1 ∗ tok (yn c, i) 2) := by
  rw [bigSep_univ_eq_bigSepL [0, 1, 2] (by decide) (by decide)]
  simp only [bigSepL_cons_cons, bigSepL_singleton]
  rw [h0, h1, h2]
  exact Entails.of_eq rfl

omit [FloatOps F] in
theorem byKind_tok (c : Dev nD) (k : Fin 8) :
    (byKind (fun a => bigSep Finset.univ fun d : Fin 3 => tok (nb (dI a k, d) c, dI a k) d) k : sProp 𝕄)
      ⊢ iprop((tok (c, dI 0 k) 0 ∗ tok (zp c, dI 1 k) 0)
      ∗ (tok (c, dI 2 k) 0 ∗ tok (xn c, dI 3 k) 0 ∗ tok (c, dI 4 k) 0 ∗ tok (yn c, dI 5 k) 0) ∗ (tok (c, dI (fS k) k) 0 ∗ tok (fn k c, dI (fR k) k) 0)) := by
  unfold byKind
  iintro ⟨⟨h0, h1, h2, h3, h4, h5, h6, h7⟩, -⟩
  ihave h0 := (tok_first c (dI 0 k)) $$ h0
  ihave h1 := (tok_first c (dI 1 k)) $$ h1
  ihave h2 := (tok_first c (dI 2 k)) $$ h2
  ihave h3 := (tok_first c (dI 3 k)) $$ h3
  ihave h4 := (tok_first c (dI 4 k)) $$ h4
  ihave h5 := (tok_first c (dI 5 k)) $$ h5
  ihave h6 := ((tok_first c (dI (fS k) k)).trans (Entails.of_eq (by rw [fS_nb]))) $$ h6
  ihave h7 := ((tok_first c (dI (fR k) k)).trans (Entails.of_eq (by rw [fR_nb]))) $$ h7
  isplitl [h0 h1]
  · isplitl [h0]; · iexact h0
    iexact h1
  isplitl [h2 h3 h4 h5]
  · isplitl [h2]; · iexact h2
    isplitl [h3]; · iexact h3
    isplitl [h4]; · iexact h4
    iexact h5
  isplitl [h6] <;> iassumption

omit [FloatOps F] in
theorem byKind_crd (c : Dev nD) (k : Fin 8) :
    iprop(cred (tallyAt (kcell (c, (atm (3 + k.val)).1)) () (amountI (atm (3 + k.val)).1)) ∗ cred (tallyAt (kcell (c, (atm (11 + 2 * k.val)).1)) () (amountI (atm (11 + 2 * k.val)).1))
      ∗ cred (tallyAt (kcell (c, (atm (12 + 2 * k.val)).1)) () (amountI (atm (12 + 2 * k.val)).1)) ∗ cred (tallyAt (kcell (c, (atm (27 + k.val)).1)) () (amountI (atm (27 + k.val)).1)))
      ⊢ (iprop(crd c 1 k ∗ crd c 3 k ∗ crd c 5 k ∗ crd c (fR k) k) : sProp 𝕄) := by
  rw [atm_z, atm_x, atm_y, atm_f]
  exact Entails.of_eq rfl

omit [FloatOps F] in
/-- The dealt state, by barrier and by chunk. -/
theorem dealt_split (c : Dev nD) : dealt (F := F) c ⊢ iprop(GB c bI ∗ GB c eI ∗ bigSep Finset.univ fun k => G0 c k) := by
  unfold dealt
  rw [ci_split, bigSep_univ_prod, ci_split, bySteps]
  iintro ⟨⟨Pb, Pe, Pk⟩, ⟨Tb, Te, Tk⟩, ⟨c0, c1, c2, c35, c36, c37⟩, Ck⟩
  ihave Tb := (tok_all c bI rfl rfl rfl) $$ Tb
  ihave Te := (tok_all c eI rfl rfl rfl) $$ Te
  ihave Tk := (mono8 fun k => byKind_tok (F := F) c k) $$ Tk
  ihave Ck := (mono8 fun k => byKind_crd (F := F) c k) $$ Ck
  ihave Cb := (three_units (F := F) (kcell (c, bI))) $$ [c0 c1 c2]
  · isplitl [c0]; · iexact c0
    isplitl [c1]; · iexact c1
    iexact c2
  ihave Ce := (three_units (F := F) (kcell (c, eI))) $$ [c35 c36 c37]
  · isplitl [c35]; · iexact c35
    isplitl [c36]; · iexact c36
    iexact c37
  unfold GB
  isplitl [Pb Tb Cb]
  · isplitl [Pb]; · iexact Pb
    isplitl [Tb] <;> iassumption
  isplitl [Pe Te Ce]
  · isplitl [Pe]; · iexact Pe
    isplitl [Te] <;> iassumption
  unfold G0
  iapply (Entails.of_eq (sep8 _ _).symm)
  isplitl [Pk]; · iexact Pk
  iapply (Entails.of_eq (sep8 _ _).symm)
  isplitl [Tk] <;> iassumption

/-! ## The buffers, chunk by chunk -/

omit [FloatOps F] in
/-- The result's buffer and the one for the half product, at any contents: the device's own blocks, and what its three
    neighbours are to be handed of it. -/
theorem buffers_split (c : Dev nD) (f : (cc0_stg2_0 : Ref sig .tc).ty.Contents (Elt F)) (g : (cc0_scratch1 : Ref sig .tc).ty.Contents (Elt F)) :
    iprop(oAt c Finset.univ fullShare f ∗ zAt c Finset.univ g)
      ⊢ (iprop((bigSep Finset.univ fun k => oEx c (qq c) k) ∗ payB (zp c) 0 ∗ payB (xn c) 1 ∗ payB (yn c) 2) : sProp 𝕄) := by
  have hk (k : Fin 8) : (iprop(oAt c (oS (qq c) k) fullShare f ∗ oAt c (oS (qq (xn c)) k) fullShare f ∗ oAt c (oS (qq (yn c)) k) fullShare f
      ∗ oAt c (oS (qq (xn (yn c))) k) fullShare f) : sProp 𝕄)
      ⊢ iprop(oEx c (qq c) k ∗ (oEx c (qq (xn c)) k ∗ if k.val % 2 = 0 then oEx c (qq (yn (xn c))) k else emp)
        ∗ (oEx c (qq (yn c)) k ∗ if k.val % 2 = 0 then emp else oEx c (qq (xn (yn c))) k)) := by
    unfold oEx
    iintro ⟨h0, h1, h2, h3⟩
    isplitl [h0]; · iexists f; iexact h0
    split
    · isplitl [h1 h3]
      · isplitl [h1]; · iexists f; iexact h1
        rw [← xn_yn]
        iexists f; iexact h3
      isplitl [h2]; · iexists f; iexact h2
      iempintro
    · isplitl [h1]
      · isplitl [h1]; · iexists f; iexact h1
        iempintro
      isplitl [h2]; · iexists f; iexact h2
      iexists f; iexact h3
  rw [oAt_chunks, zAt_chunks]
  have h0 : (bigSep Finset.univ fun k => zAt c (zS k) g : sProp 𝕄) ⊢ payB (zp c) 0 := by
    unfold payB; rw [zp_zp]
    refine mono8 fun k => ?_
    unfold zEx
    iintro H; iexists g; iexact H
  have h1 : (bigSep Finset.univ fun k : Fin 8 => iprop(oEx c (qq (xn c)) k ∗ if k.val % 2 = 0 then oEx c (qq (yn (xn c))) k else emp) : sProp 𝕄) ⊢ payB (xn c) 1 := by
    unfold payB; rw [xn_xn]
  have h2 : (bigSep Finset.univ fun k : Fin 8 => iprop(oEx c (qq (yn c)) k ∗ if k.val % 2 = 0 then emp else oEx c (qq (xn (yn c))) k) : sProp 𝕄) ⊢ payB (yn c) 2 := by
    unfold payB; rw [yn_yn]
  iintro ⟨Ho, Hz⟩
  ihave Ho := ((mono8 hk).trans (Entails.of_eq (by rw [bigSep_sep', bigSep_sep']))) $$ Ho
  icases Ho with ⟨H0, H1, H2⟩
  isplitl [H0]; · iexact H0
  isplitl [Hz]; · iapply h0; iexact Hz
  isplitl [H1]; · iapply h1; iexact H1
  iapply h2; iexact H2

omit [FloatOps F] in
/-- The chunks are ready to start once the entry barrier has handed over the neighbours' blocks. -/
theorem chunks_ready (c : Dev nD) :
    iprop((bigSep Finset.univ fun k => G0 c k) ∗ (bigSep Finset.univ fun k => oEx c (qq c) k) ∗ payB c 0 ∗ payB c 1 ∗ payB c 2)
      ⊢ (iprop((bigSep Finset.univ fun k => S0 c k) ∗ bigSep Finset.univ fun k => iprop(pos (c, dI (gS k) k) ∗ pos (c, dI (gR k) k))) : sProp 𝕄) := by
  unfold payB
  rw [← bigSep_sep', ← bigSep_sep', ← bigSep_sep', ← bigSep_sep', ← bigSep_sep']
  refine mono8 fun k => ?_
  have hf : (iprop((if k.val % 2 = 0 then oEx (xn c) (qq (yn c)) k else emp) ∗ (if k.val % 2 = 0 then emp else oEx (yn c) (qq (xn c)) k)) : sProp 𝕄)
      ⊢ oEx (fn k c) (qq (fo k c)) k := by
    unfold fn fo
    split
    · iintro ⟨H, -⟩; iexact H
    · iintro ⟨-, H⟩; iexact H
  unfold G0 S0
  iintro ⟨⟨⟨Hp, Hg⟩, ⟨T0, T1, T2⟩, Hc⟩, Ho, Hz, ⟨Hx, Hfx⟩, ⟨Hy, Hfy⟩⟩
  ihave Hf := hf $$ [Hfx Hfy]
  · isplitl [Hfx] <;> iassumption
  isplitr [Hg]
  · isplitl [Hp]; · iexact Hp
    isplitl [T0]; · iexact T0
    isplitl [T1]; · iexact T1
    isplitl [T2]; · iexact T2
    isplitl [Hc]; · iexact Hc
    isplitl [Ho]; · iexact Ho
    isplitl [Hz]; · iexact Hz
    isplitl [Hx]; · iexact Hx
    isplitl [Hy] <;> iassumption
  iexact Hg

/-- The chunks all over: every counter at zero and the three buffers whole, the result's holding the sum. -/
theorem chunks_done (c : Dev nD) :
    iprop(val (c, bI) ∗ val (c, eI) ∗ (bigSep Finset.univ fun k => S5 m c k) ∗ bigSep Finset.univ fun k => iprop(val (c, dI (gS k) k) ∗ val (c, dI (gR k) k)))
      ⊢ (iprop((bigSep Finset.univ fun i => val (c, i)) ∗ pAt c Finset.univ (PC m c) ∗ zAt c Finset.univ (ZC m c) ∗ oAt c Finset.univ fullShare (OC m c)) : sProp 𝕄) := by
  have hp : (pAt c Finset.univ (PC m c) : sProp 𝕄) = pAt c (colS Finset.univ) (PC m c) := by rw [colS_univ]
  rw [ci_split (fun i => val (c, i)), hp, pAt_cols, zAt_chunks, oAt_chunks]
  unfold S5
  have hv : iprop((bigSep Finset.univ fun k : Fin 8 => iprop(val (c, dI 0 k) ∗ val (c, dI 1 k) ∗ val (c, dI 2 k) ∗ val (c, dI 3 k) ∗ val (c, dI 4 k) ∗ val (c, dI 5 k) ∗ val (c, dI (fS k) k) ∗ val (c, dI (fR k) k)))
      ∗ bigSep Finset.univ fun k : Fin 8 => iprop(val (c, dI (gS k) k) ∗ val (c, dI (gR k) k))) ⊢ (bigSep Finset.univ fun k => byKind (fun a => val (c, dI a k)) k : sProp 𝕄) := by
    rw [← bigSep_sep']; exact Entails.of_eq rfl
  iintro ⟨Hb, He, H5, Hg⟩
  ihave H5 := (Entails.of_eq (sep8 _ _)) $$ H5
  icases H5 with ⟨Hv, H5⟩
  ihave H5 := (Entails.of_eq (sep8 _ _)) $$ H5
  icases H5 with ⟨Hp, H5⟩
  ihave H5 := (Entails.of_eq (sep8 _ _)) $$ H5
  icases H5 with ⟨Hz, Ho⟩
  ihave Hv := hv $$ [Hv Hg]
  · isplitl [Hv] <;> iassumption
  isplitl [Hb He Hv]
  · isplitl [Hb]; · iexact Hb
    isplitl [He] <;> iassumption
  isplitl [Hp]; · iexact Hp
  isplitl [Hz] <;> iassumption

omit [FloatOps F] in
/-- The product's buffer in the four blocks of columns it is stored in. -/
theorem product_split (c : Dev nD) (f : (cc0_scratch0 : Ref sig .tc).ty.Contents (Elt F)) :
    (pAt c Finset.univ f : sProp 𝕄) = iprop(pAt c (colS {0}) f ∗ pAt c (colS {1}) f ∗ pAt c (colS {2, 3}) f ∗ pAt c (colS {4, 5, 6, 7}) f) := by
  have e : (Finset.univ : Finset (Fin 8)) = {0} ∪ ({1} ∪ ({2, 3} ∪ {4, 5, 6, 7})) := by decide
  rw [show (pAt c Finset.univ f : sProp 𝕄) = pAt c (colS Finset.univ) f by rw [colS_univ], pAt_cols, e, bigSep_union (by decide), bigSep_union (by decide),
    bigSep_union (by decide), ← pAt_cols, ← pAt_cols, ← pAt_cols, ← pAt_cols]
  rfl

omit [FloatOps F] in
theorem cols1 (c : Dev nD) (k : Fin 8) (f : (cc0_scratch0 : Ref sig .tc).ty.Contents (Elt F)) :
    (pAt c (colS {k}) f : sProp 𝕄) = iprop(pAt c (pS (zz c) k) f ∗ pAt c (pS (oz c) k) f) := by
  rw [pAt_cols, bigSep_singleton]
omit [FloatOps F] in
theorem cols2 (c : Dev nD) (f : (cc0_scratch0 : Ref sig .tc).ty.Contents (Elt F)) :
    (pAt c (colS {2, 3}) f : sProp 𝕄) = iprop((pAt c (pS (zz c) 2) f ∗ pAt c (pS (oz c) 2) f) ∗ (pAt c (pS (zz c) 3) f ∗ pAt c (pS (oz c) 3) f)) := by
  rw [pAt_cols, bigSep_insert (by decide), bigSep_singleton]
  rfl
omit [FloatOps F] in
theorem cols4 (c : Dev nD) (f : (cc0_scratch0 : Ref sig .tc).ty.Contents (Elt F)) :
    (pAt c (colS {4, 5, 6, 7}) f : sProp 𝕄) = iprop((pAt c (pS (zz c) 4) f ∗ pAt c (pS (oz c) 4) f) ∗ (pAt c (pS (zz c) 5) f ∗ pAt c (pS (oz c) 5) f)
      ∗ (pAt c (pS (zz c) 6) f ∗ pAt c (pS (oz c) 6) f) ∗ (pAt c (pS (zz c) 7) f ∗ pAt c (pS (oz c) 7) f)) := by
  rw [pAt_cols, bigSep_insert (by decide), bigSep_insert (by decide), bigSep_insert (by decide), bigSep_singleton]
  rfl

omit [FloatOps F] in
/-- Eight chunks, one by one. -/
theorem eight (Φ : Fin 8 → sProp 𝕄) : bigSep Finset.univ Φ = iprop(Φ 0 ∗ Φ 1 ∗ Φ 2 ∗ Φ 3 ∗ Φ 4 ∗ Φ 5 ∗ Φ 6 ∗ Φ 7) := by
  rw [bigSep_univ_eq_bigSepL [0, 1, 2, 3, 4, 5, 6, 7] (by decide) (by decide)]
  simp only [bigSepL_cons_cons, bigSepL_singleton]
  rfl

/-! ## The two barriers' waits -/

/-- The wait for a barrier's three units, closing its cell: what the three neighbours handed over. -/
theorem wait_reg (K : Dev nD × CI → ℕ) (c : Dev nD) (n b : ℕ) (i : CI) (s : Sem sig) (hs : csem i = .reg s) (he : expectI i = 3) (hb : lvI i ≤ b)
    (hlv : ∀ t : Fin 38, n ≤ t.val → b < lvI (atm t.val).1)
    {α : Type} {Q : α → sProp 𝕄} {k' : PUnit → PR F α} :
    iprop(recs m K ∗ cred (tallyAt (kcell (c, i)) () 3) ∗ Ow c n ∗ pos (c, i))
      ⊢ iprop(((Ow c n ∗ val (c, i) ∗ bigSep ((rd m).duties (kcell (c, i)) 0 \ ∅) fun d => (rd m).payload (kcell (c, i)) 0 d) -∗ WP c (k' ⟨⟩) Q)
          -∗ WP c (.op (.semWait s ((3 : ℕ) : Int)) k') Q) := by
  unfold Ow
  have hg : kcell (c, i) = (tcOf c, .reg s) := by show (_, csem i) = _; rw [hs]
  iintro ⟨#Hr, Hc, ⟨%W, HO⟩, Hp⟩ Hk
  ihave Hc' := (recs_cell m K (c, i)) $$ Hr
  icases Hc' with ⟨#Hi, -⟩
  have e1 := expect_cell m (c, i)
  have e2 := lv_cell (c, i) ()
  have e3 := duties_later m (kcell (c, i))
  rw [hg] at e1 e2 e3 ⊢
  iapply (Rounds.wp_wait_rest_token 𝒱₀ ER (rd m) (tcOf c) none (κ := K (c, i)) (sm := .reg s) (k' := 3)
      (wpE_semWait_eq 𝒱₀ (tcOf c) none Set.univ) (Set.mem_univ _) () (O := owed c n) (W := W) (R := 0) (m := 0) (T := ∅)
      (by rw [Nat.zero_add, e1]; exact he.symm)) $$ [Hc HO Hp]
  · isplitr; · iexact Hi
    isplitl [Hc]; · iexact Hc
    isplitl [HO]; · iexact HO
    isplitr
    · iapply (may_wait c (.reg s) n b (le_trans (le_of_eq e2) hb) hlv)
      iapply (recs_lev m K); iexact Hr
    rw [← hg]; iexact Hp
  iintro ⟨HO, Hat, -, Hpay⟩
  rw [← hg] at e3 ⊢
  imod (Rounds.cell_close ER (rd m) (Set.mem_univ (K (c, i))) (fun h => h) (R := 0 + 1) e3) $$ [Hat] with Hz
  · isplitr; · iexact Hi
    iexact Hat
  iapply Hk
  isplitl [HO]; · iexists _; iexact HO
  isplitl [Hz] <;> iassumption

end Cert.KernelIdealProof

end
-- ==== Proof.KernelIdeal.Body.lean ====
/-
# The body of one device
-/
module

public import proofs.«01_k».proof.Proof.KernelIdeal.Deal

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The printed offsets, by quadrant, half and chunk -/

theorem row_oz : ∀ (c : Dev nD) (k : Fin 8), ![512 - 512 * (c.val % 2), 128 * k.val] = ![512 * (oz c).val, 128 * k.val] := by decide
theorem row_zz (c : Dev nD) (k : Fin 8) : ![512 * (c.val % 2), 128 * k.val] = ![512 * (zz c).val, 128 * k.val] := rfl
theorem col13 : ∀ (c : Dev nD) (k : Fin 8), k0_off13 c (BitVec.ofNat 32 (128 * k.val)) = ![0, 1024 * (qq c).val + 128 * k.val] := by decide +kernel
theorem col14 : ∀ (c : Dev nD) (k : Fin 8), k0_off14 c (BitVec.ofNat 32 (128 * k.val)) = ![0, 1024 * (qq c).val + 128 * k.val] := by decide +kernel
theorem col22 : ∀ (c : Dev nD) (k : Fin 8), k0_off22 c (BitVec.ofNat 32 (128 * k.val)) = ![0, 1024 * (qq (xn c)).val + 128 * k.val] := by decide +kernel
theorem col23 : ∀ (c : Dev nD) (k : Fin 8), k0_off23 c (BitVec.ofNat 32 (128 * k.val)) = ![0, 1024 * (qq (yn c)).val + 128 * k.val] := by decide +kernel

theorem zeros : (![0, 0] : Fin 2 → Nat) = fun _ => 0 := funext fun a => by fin_cases a <;> rfl

/-- The chunks of the four blocks of columns. -/
abbrev part0 : Finset (Fin 8) := {0}
abbrev part1 : Finset (Fin 8) := {1}
abbrev part2 : Finset (Fin 8) := {2, 3}
abbrev part3 : Finset (Fin 8) := {4, 5, 6, 7}

/-- One block of columns of the product: `dy`'s columns are loaded, multiplied, stored. -/
theorem product (K : Dev nD × CI → ℕ) (c : Dev nD) (C : Finset (Fin 8)) (o n : ℕ) (hC : ∀ k : Fin 8, k ∈ C ↔ o ≤ 128 * k.val ∧ 128 * k.val < o + n)
    (h1 : o % 128 = 0) (h2 : n % 128 = 0) {offy : Fin 2 → ℕ} {hy : ∀ a, offy a + (![1024, n] : Fin 2 → ℕ) a ≤ S1024x4096.size a}
    {hb : ∀ a, (![0, o] : Fin 2 → ℕ) a + (![1024, n] : Fin 2 → ℕ) a ≤ S1024x1024.size a}
    {l1 : yM.view.LoadsAt (Rect.unit (s := S1024x4096) offy ![1024, n] hy).toLoadRect} {l2 : pM.view.LoadsAt (Rect.unit (s := S1024x1024) ![0, o] ![1024, n] hb).toLoadRect}
    {s1 : (pM.access (Rect.unit (s := S1024x1024) ![0, o] ![1024, n] hb)).Stores Finset.univ}
    {s2 : (Finset.univ : Finset (Rect.unit (s := S1024x1024) ![0, o] ![1024, n] hb).shape.Idx) = Finset.univ ∨ ∀ a, (Rect.unit (s := S1024x1024) ![0, o] ![1024, n] hb).stride a = 1}
    (pay : (Shape.Idx ⟨2, ![1024, n]⟩ → Elt F .f32) → (Shape.Idx ⟨2, ![1024, n]⟩ → Elt F .f32))
    (hst : ∀ hb f, ∀ i ∈ colS C, (pM.access (Rect.unit (s := S1024x1024) ![0, o] ![1024, n] hb) : View sig .tc _ _ _).write (Elt F) f
      (pay (yM.view.readAt (Elt F) (Rect.unit (s := S1024x4096) offy ![1024, n] hy).toLoadRect (ystg m c))) Finset.univ i = PC m c i)
    (f : (cc0_scratch0 : Ref sig .tc).ty.Contents (Elt F)) {α : Type} {Q : α → sProp 𝕄} {k' : PUnit → PR F α} :
    iprop(((tcOf c).loc cc0_stg1_0 ↦{fullShare} ystg m c) ∗ pAt c (colS C) f)
      ⊢ iprop(((((tcOf c).loc cc0_stg1_0 ↦{fullShare} ystg m c) ∗ pAt c (colS C) (PC m c)) -∗ WP c (k' ⟨⟩) Q)
          -∗ WP c (.op (.load yM (Rect.unit (s := S1024x4096) offy ![1024, n] hy).toLoadRect l1 : TpuEff nD τ sig (Elt F) Λ₀ .tc (Shape.Idx ⟨2, ![1024, n]⟩ → Elt F .f32)) fun v =>
            .op (.load pM (Rect.unit (s := S1024x1024) ![0, o] ![1024, n] hb).toLoadRect l2 : TpuEff nD τ sig (Elt F) Λ₀ .tc (Shape.Idx ⟨2, ![1024, n]⟩ → Elt F .f32)) fun _ =>
            .op (.store pM (Rect.unit (s := S1024x1024) ![0, o] ![1024, n] hb) (pay v) Finset.univ s1 s2) k') Q) := by
  have hset : (pM.access (Rect.unit (s := S1024x1024) ![0, o] ![1024, n] hb)).set = colS C := (View.set_slice_whole _ _).trans (colS_eq hC h1 h2)
  unfold pAt
  iintro ⟨Hy, Hp⟩ Hk
  iapply (wp_load 𝒱₀ (tcOf c) none Set.univ (m := yM) (Finset.subset_univ _)) $$ Hy; iintro Hy
  iapply (wp_load_rect 𝒱₀ (tcOf c) none Set.univ (m := pM) (r := Rect.unit (s := S1024x1024) ![0, o] ![1024, n] hb) (by rw [hset])) $$ Hp; iintro Hp
  iapply (wp_store 𝒱₀ (tcOf c) none Set.univ (m := pM) (r := Rect.unit (s := S1024x1024) ![0, o] ![1024, n] hb) (Mk := Finset.univ) (by rw [View.setOn_univ, hset])) $$ Hp; iintro Hp
  ihave Hp := (Entails.of_eq (pointsTo_congr (hst hb f))) $$ Hp
  iapply Hk
  isplitl [Hy] <;> iassumption

/-! ## The body -/

/-- What the body needs and what it leaves, apart from the bookkeeping of the launch. -/
def bodyIn (K : Dev nD × CI → ℕ) (c : Dev nD) : sProp 𝕄 :=
  iprop(recs m K ∗ dealt c ∗ Ow c 0 ∗ ((tcOf c).loc cc0_stg0_0 ↦{fullShare} xstg m c) ∗ ((tcOf c).loc cc0_stg1_0 ↦{fullShare} ystg m c)
    ∗ (∃ f, oAt c Finset.univ fullShare f) ∗ (∃ f, pAt c Finset.univ f) ∗ ∃ f, zAt c Finset.univ f)
def bodyOut (c : Dev nD) : sProp 𝕄 :=
  iprop(((bigSep Finset.univ fun i => val (c, i)) ∗ pAt c Finset.univ (PC m c) ∗ zAt c Finset.univ (ZC m c) ∗ oAt c Finset.univ fullShare (OC m c))
    ∗ Ow c 38 ∗ ((tcOf c).loc cc0_stg0_0 ↦{fullShare} xstg m c) ∗ ((tcOf c).loc cc0_stg1_0 ↦{fullShare} ystg m c))

theorem unusedG : ∀ k : Fin 8, used (gS k) k = false ∧ used (gR k) k = false := by decide

/-- The cells no transfer uses, closed. -/
theorem close_all (K : Dev nD × CI → ℕ) (c : Dev nD) :
    iprop(recs m K ∗ bigSep Finset.univ fun k => iprop(pos (c, dI (gS k) k) ∗ pos (c, dI (gR k) k)))
      ⊢ (|={Set.univ}=> bigSep Finset.univ fun k => iprop(val (c, dI (gS k) k) ∗ val (c, dI (gR k) k)) : sProp 𝕄) := by
  have h (k : Fin 8) : iprop(recs m K ∗ (pos (c, dI (gS k) k) ∗ pos (c, dI (gR k) k))) ⊢ (|={Set.univ}=> iprop(val (c, dI (gS k) k) ∗ val (c, dI (gR k) k)) : sProp 𝕄) := by
    iintro ⟨#Hr, H1, H2⟩
    imod (close_unused m K c (gS k) k (unusedG k).1) $$ [H1] with V1
    · (isplitr; iexact Hr; iexact H1)
    imod (close_unused m K c (gR k) k (unusedG k).2) $$ [H2] with V2
    · (isplitr; iexact Hr; iexact H2)
    imodintro
    isplitl [V1] <;> iassumption
  exact ((sep_mono_left (BI.bigSep_of_persistent Finset.univ (recs m K))).trans (by rw [← bigSep_sep']; exact mono8 h)).trans (bigSep_fupd _ _)

set_option maxHeartbeats 2000000 in
set_option maxRecDepth 20000 in
/-- The body of device `c`, effect by effect. -/
theorem sound_body (K : Dev nD × CI → ℕ) (c : Dev nD) (Kt : PUnit → sProp 𝕄) :
    iprop(bodyIn m K c ∗ (bodyOut m c -∗ Kt ⟨⟩))
      ⊢ WP c (cc0_body xM (Memref.isWhole_whole _) yM (Memref.isWhole_whole _) oM (Memref.isWhole_whole _) pM (Memref.isWhole_whole _) zM (Memref.isWhole_whole _)
          cc0_scratch2 cc0_scratch3 cc0_scratch4 cc0_scratch5 cc0_scratch6 cc0_scratch7 cc0_scratch8 cc0_scratch9 cc0_scratch10 cc0_scratch11 cc0_scratch12) Kt := by
  simp only [cc0_body_eq_skeleton]
  unfold cc0_body_skel
  simp only [k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, semSignalWord, semWaitWord, Prog.lift, Prog.bind_op, Prog.bind_ret, Prog.pure_eq_ret, wp_deviceId]
  unfold bodyIn
  iintro ⟨⟨#Hr, Hd, HO, Hx, Hy, ⟨%f, Ho⟩, ⟨%u, Hp⟩, ⟨%g, Hz⟩⟩, Hk⟩
  ihave Hd := (dealt_split c) $$ Hd
  unfold GB
  icases Hd with ⟨⟨Bp, ⟨B0, B1, B2⟩, Bc⟩, ⟨Ep, ⟨E0, E1, E2⟩, Ec⟩, HG⟩
  ihave Hb := (buffers_split c f g) $$ [Ho Hz]
  · (isplitl [Ho]; iexact Ho; iexact Hz)
  icases Hb with ⟨Hown, N0, N1, N2⟩
  iapply (signal m K c _ 0 (by decide) bI 0 _ rfl rfl (Fin.ext (k0_dev1_eq c)) (by decide) rfl) $$ [HO B0 N0]
  · (isplitr; iexact Hr; isplitl [HO]; iexact HO; isplitl [B0]; iexact B0; iapply (Entails.of_eq (show payB (zp c) 0 = payI m (nb (bI, 0) c) bI 0 from rfl)); iexact N0)
  iintro HO
  iapply (signal m K c _ 1 (by decide) bI 1 _ rfl rfl (Fin.ext (k0_dev2_eq c)) (by decide) rfl) $$ [HO B1 N1]
  · (isplitr; iexact Hr; isplitl [HO]; iexact HO; isplitl [B1]; iexact B1; iapply (Entails.of_eq (show payB (xn c) 1 = payI m (nb (bI, 1) c) bI 1 from rfl)); iexact N1)
  iintro HO
  iapply (signal m K c _ 2 (by decide) bI 2 _ rfl rfl (Fin.ext (k0_dev3_eq c)) (by decide) rfl) $$ [HO B2 N2]
  · (isplitr; iexact Hr; isplitl [HO]; iexact HO; isplitl [B2]; iexact B2; iapply (Entails.of_eq (show payB (yn c) 2 = payI m (nb (bI, 2) c) bI 2 from rfl)); iexact N2)
  iintro HO
  iapply (wait_reg m K c 3 1 bI _ rfl rfl (Nat.le_refl 1) lv_three) $$ [Bc HO Bp]
  · (isplitr; iexact Hr; isplitl [Bc]; iexact Bc; isplitl [HO]; iexact HO; iexact Bp)
  iintro ⟨HO, Vb, Hpay⟩
  ihave Hpay := (Entails.of_eq (rest_bar m c)) $$ Hpay
  ihave Hs := (chunks_ready c) $$ [HG Hown Hpay]
  · (isplitl [HG]; iexact HG; isplitl [Hown]; iexact Hown; iexact Hpay)
  icases Hs with ⟨Hs, Hg⟩
  ihave Hs := (Entails.of_eq (eight _)) $$ Hs
  icases Hs with ⟨s0, s1, s2, s3, s4, s5, s6, s7⟩
  iapply (wp_load 𝒱₀ (tcOf c) none Set.univ (m := xM) (Finset.subset_univ _)) $$ Hx; iintro Hx
  rw [show xM.view.readAt (Elt F) (Rect.unit (s := S1024x1024) ![0, 0] S1024x1024.size inb_S1024x1024_S1024x1024_0_0).toLoadRect (xstg m c) = xstg m c from
    Memref.readAt_unit_zero (Elt F) cc0_stg0_0 zeros _ _]
  ihave Hp := (Entails.of_eq (product_split c u)) $$ Hp
  icases Hp with ⟨U0, U1, U2, U4⟩
  iapply (product m K c part0 0 128 (by decide) rfl rfl (offy := k0_off1 c 0#32) (hy := k0_off1_inb c 0) (k0_pay2 (xstg m c)) (fun hb f => p_store0 m c hb f) u) $$ [Hy U0]
  · (isplitl [Hy]; iexact Hy; iexact U0)
  iintro ⟨Hy, U0⟩
  ihave U0 := (Entails.of_eq (cols1 c 0 _)) $$ U0
  iapply (phaseA m K c _ 0 (Fin.ext (k0_dev4_eq c)) ((k0_off2_eq c).trans (row_oz c 0)) rfl) $$ [s0 U0 HO]
  · (isplitr; iexact Hr; isplitl [s0]; iexact s0; isplitl [U0]; iexact U0; iexact HO)
  iintro ⟨s0, HO⟩
  iapply (product m K c part1 128 128 (by decide) rfl rfl (offy := k0_off1 c 128#32) (hy := k0_off1_inb c 1) (k0_pay3 (k0_pay1 (xstg m c))) (fun hb f => p_store1 m c hb f) u) $$ [Hy U1]
  · (isplitl [Hy]; iexact Hy; iexact U1)
  iintro ⟨Hy, U1⟩
  ihave U1 := (Entails.of_eq (cols1 c 1 _)) $$ U1
  iapply (phaseA m K c _ 1 (Fin.ext (k0_dev5_eq c)) ((k0_off3_eq c).trans (row_oz c 1)) rfl) $$ [s1 U1 HO]
  · (isplitr; iexact Hr; isplitl [s1]; iexact s1; isplitl [U1]; iexact U1; iexact HO)
  iintro ⟨s1, HO⟩
  iapply (product m K c part2 256 256 (by decide) rfl rfl (offy := k0_off4 c) (hy := k0_off4_inb c) (fun v => k0_pay5 (k0_pay4 (k0_pay1 (xstg m c)) v)) (fun hb f => p_store2 m c hb f) u) $$ [Hy U2]
  · (isplitl [Hy]; iexact Hy; iexact U2)
  iintro ⟨Hy, U2⟩
  ihave U2 := (Entails.of_eq (cols2 c _)) $$ U2
  icases U2 with ⟨U2, U3⟩
  iapply (phaseA m K c _ 2 (Fin.ext (k0_dev6_eq c)) ((k0_off5_eq c).trans (row_oz c 2)) rfl) $$ [s2 U2 HO]
  · (isplitr; iexact Hr; isplitl [s2]; iexact s2; isplitl [U2]; iexact U2; iexact HO)
  iintro ⟨s2, HO⟩
  iapply (phaseA m K c _ 3 (Fin.ext (k0_dev7_eq c)) ((k0_off6_eq c).trans (row_oz c 3)) rfl) $$ [s3 U3 HO]
  · (isplitr; iexact Hr; isplitl [s3]; iexact s3; isplitl [U3]; iexact U3; iexact HO)
  iintro ⟨s3, HO⟩
  iapply (product m K c part3 512 512 (by decide) rfl rfl (offy := k0_off7 c) (hy := k0_off7_inb c) (fun v => k0_pay7 (k0_pay6 (k0_pay1 (xstg m c)) v)) (fun hb f => p_store3 m c hb f) u) $$ [Hy U4]
  · (isplitl [Hy]; iexact Hy; iexact U4)
  iintro ⟨Hy, U4⟩
  ihave U4 := (Entails.of_eq (cols4 c _)) $$ U4
  icases U4 with ⟨U4, U5, U6, U7⟩
  iapply (phaseA m K c _ 4 (Fin.ext (k0_dev8_eq c)) ((k0_off8_eq c).trans (row_oz c 4)) rfl) $$ [s4 U4 HO]
  · (isplitr; iexact Hr; isplitl [s4]; iexact s4; isplitl [U4]; iexact U4; iexact HO)
  iintro ⟨s4, HO⟩
  iapply (phaseA m K c _ 5 (Fin.ext (k0_dev9_eq c)) ((k0_off9_eq c).trans (row_oz c 5)) rfl) $$ [s5 U5 HO]
  · (isplitr; iexact Hr; isplitl [s5]; iexact s5; isplitl [U5]; iexact U5; iexact HO)
  iintro ⟨s5, HO⟩
  iapply (phaseA m K c _ 6 (Fin.ext (k0_dev10_eq c)) ((k0_off10_eq c).trans (row_oz c 6)) rfl) $$ [s6 U6 HO]
  · (isplitr; iexact Hr; isplitl [s6]; iexact s6; isplitl [U6]; iexact U6; iexact HO)
  iintro ⟨s6, HO⟩
  iapply (phaseA m K c _ 7 (Fin.ext (k0_dev11_eq c)) ((k0_off11_eq c).trans (row_oz c 7)) rfl) $$ [s7 U7 HO]
  · (isplitr; iexact Hr; isplitl [s7]; iexact s7; isplitl [U7]; iexact U7; iexact HO)
  iintro ⟨s7, HO⟩
  iapply (phaseB m K c _ _ 0 (Fin.ext (k0_dev12_eq c)) (Fin.ext (k0_dev13_eq c)) ((k0_off12_eq c).trans (row_zz c 0)) rfl (col13 c 0) (col14 c 0)) $$ [s0 HO]
  · (isplitr; iexact Hr; isplitl [s0]; iexact s0; iexact HO)
  iintro ⟨s0, HO⟩
  iapply (phaseB m K c _ _ 1 (Fin.ext (k0_dev14_eq c)) (Fin.ext (k0_dev15_eq c)) ((k0_off15_eq c).trans (row_zz c 1)) rfl (col13 c 1) (col14 c 1)) $$ [s1 HO]
  · (isplitr; iexact Hr; isplitl [s1]; iexact s1; iexact HO)
  iintro ⟨s1, HO⟩
  iapply (phaseB m K c _ _ 2 (Fin.ext (k0_dev16_eq c)) (Fin.ext (k0_dev17_eq c)) ((k0_off16_eq c).trans (row_zz c 2)) rfl (col13 c 2) (col14 c 2)) $$ [s2 HO]
  · (isplitr; iexact Hr; isplitl [s2]; iexact s2; iexact HO)
  iintro ⟨s2, HO⟩
  iapply (phaseB m K c _ _ 3 (Fin.ext (k0_dev18_eq c)) (Fin.ext (k0_dev19_eq c)) ((k0_off17_eq c).trans (row_zz c 3)) rfl (col13 c 3) (col14 c 3)) $$ [s3 HO]
  · (isplitr; iexact Hr; isplitl [s3]; iexact s3; iexact HO)
  iintro ⟨s3, HO⟩
  iapply (phaseB m K c _ _ 4 (Fin.ext (k0_dev20_eq c)) (Fin.ext (k0_dev21_eq c)) ((k0_off18_eq c).trans (row_zz c 4)) rfl (col13 c 4) (col14 c 4)) $$ [s4 HO]
  · (isplitr; iexact Hr; isplitl [s4]; iexact s4; iexact HO)
  iintro ⟨s4, HO⟩
  iapply (phaseB m K c _ _ 5 (Fin.ext (k0_dev22_eq c)) (Fin.ext (k0_dev23_eq c)) ((k0_off19_eq c).trans (row_zz c 5)) rfl (col13 c 5) (col14 c 5)) $$ [s5 HO]
  · (isplitr; iexact Hr; isplitl [s5]; iexact s5; iexact HO)
  iintro ⟨s5, HO⟩
  iapply (phaseB m K c _ _ 6 (Fin.ext (k0_dev24_eq c)) (Fin.ext (k0_dev25_eq c)) ((k0_off20_eq c).trans (row_zz c 6)) rfl (col13 c 6) (col14 c 6)) $$ [s6 HO]
  · (isplitr; iexact Hr; isplitl [s6]; iexact s6; iexact HO)
  iintro ⟨s6, HO⟩
  iapply (phaseB m K c _ _ 7 (Fin.ext (k0_dev26_eq c)) (Fin.ext (k0_dev27_eq c)) ((k0_off21_eq c).trans (row_zz c 7)) rfl (col13 c 7) (col14 c 7)) $$ [s7 HO]
  · (isplitr; iexact Hr; isplitl [s7]; iexact s7; iexact HO)
  iintro ⟨s7, HO⟩
  iapply (phaseC_even m K c _ 0 (by decide) (Fin.ext (k0_dev28_eq c)) (col23 c 0)) $$ [s0 HO]
  · (isplitr; iexact Hr; isplitl [s0]; iexact s0; iexact HO)
  iintro ⟨s0, HO⟩
  iapply (phaseC_odd m K c _ 1 (by decide) (Fin.ext (k0_dev29_eq c)) (col22 c 1)) $$ [s1 HO]
  · (isplitr; iexact Hr; isplitl [s1]; iexact s1; iexact HO)
  iintro ⟨s1, HO⟩
  iapply (phaseC_even m K c _ 2 (by decide) (Fin.ext (k0_dev30_eq c)) (col23 c 2)) $$ [s2 HO]
  · (isplitr; iexact Hr; isplitl [s2]; iexact s2; iexact HO)
  iintro ⟨s2, HO⟩
  iapply (phaseC_odd m K c _ 3 (by decide) (Fin.ext (k0_dev31_eq c)) (col22 c 3)) $$ [s3 HO]
  · (isplitr; iexact Hr; isplitl [s3]; iexact s3; iexact HO)
  iintro ⟨s3, HO⟩
  iapply (phaseC_even m K c _ 4 (by decide) (Fin.ext (k0_dev32_eq c)) (col23 c 4)) $$ [s4 HO]
  · (isplitr; iexact Hr; isplitl [s4]; iexact s4; iexact HO)
  iintro ⟨s4, HO⟩
  iapply (phaseC_odd m K c _ 5 (by decide) (Fin.ext (k0_dev33_eq c)) (col22 c 5)) $$ [s5 HO]
  · (isplitr; iexact Hr; isplitl [s5]; iexact s5; iexact HO)
  iintro ⟨s5, HO⟩
  iapply (phaseC_even m K c _ 6 (by decide) (Fin.ext (k0_dev34_eq c)) (col23 c 6)) $$ [s6 HO]
  · (isplitr; iexact Hr; isplitl [s6]; iexact s6; iexact HO)
  iintro ⟨s6, HO⟩
  iapply (phaseC_odd m K c _ 7 (by decide) (Fin.ext (k0_dev35_eq c)) (col22 c 7)) $$ [s7 HO]
  · (isplitr; iexact Hr; isplitl [s7]; iexact s7; iexact HO)
  iintro ⟨s7, HO⟩
  iapply (phaseD m K c 0 7 rfl) $$ [s0 HO]
  · (isplitr; iexact Hr; isplitl [s0]; iexact s0; iexact HO)
  iintro ⟨s0, HO⟩
  iapply (phaseD m K c 1 9 rfl) $$ [s1 HO]
  · (isplitr; iexact Hr; isplitl [s1]; iexact s1; iexact HO)
  iintro ⟨s1, HO⟩
  iapply (phaseD m K c 2 7 rfl) $$ [s2 HO]
  · (isplitr; iexact Hr; isplitl [s2]; iexact s2; iexact HO)
  iintro ⟨s2, HO⟩
  iapply (phaseD m K c 3 9 rfl) $$ [s3 HO]
  · (isplitr; iexact Hr; isplitl [s3]; iexact s3; iexact HO)
  iintro ⟨s3, HO⟩
  iapply (phaseD m K c 4 7 rfl) $$ [s4 HO]
  · (isplitr; iexact Hr; isplitl [s4]; iexact s4; iexact HO)
  iintro ⟨s4, HO⟩
  iapply (phaseD m K c 5 9 rfl) $$ [s5 HO]
  · (isplitr; iexact Hr; isplitl [s5]; iexact s5; iexact HO)
  iintro ⟨s5, HO⟩
  iapply (phaseD m K c 6 7 rfl) $$ [s6 HO]
  · (isplitr; iexact Hr; isplitl [s6]; iexact s6; iexact HO)
  iintro ⟨s6, HO⟩
  iapply (phaseD m K c 7 9 rfl) $$ [s7 HO]
  · (isplitr; iexact Hr; isplitl [s7]; iexact s7; iexact HO)
  iintro ⟨s7, HO⟩
  iapply (phaseE m K c 0 6 rfl) $$ [s0 HO]
  · (isplitr; iexact Hr; isplitl [s0]; iexact s0; iexact HO)
  iintro ⟨s0, HO⟩
  iapply (phaseE m K c 1 8 rfl) $$ [s1 HO]
  · (isplitr; iexact Hr; isplitl [s1]; iexact s1; iexact HO)
  iintro ⟨s1, HO⟩
  iapply (phaseE m K c 2 6 rfl) $$ [s2 HO]
  · (isplitr; iexact Hr; isplitl [s2]; iexact s2; iexact HO)
  iintro ⟨s2, HO⟩
  iapply (phaseE m K c 3 8 rfl) $$ [s3 HO]
  · (isplitr; iexact Hr; isplitl [s3]; iexact s3; iexact HO)
  iintro ⟨s3, HO⟩
  iapply (phaseE m K c 4 6 rfl) $$ [s4 HO]
  · (isplitr; iexact Hr; isplitl [s4]; iexact s4; iexact HO)
  iintro ⟨s4, HO⟩
  iapply (phaseE m K c 5 8 rfl) $$ [s5 HO]
  · (isplitr; iexact Hr; isplitl [s5]; iexact s5; iexact HO)
  iintro ⟨s5, HO⟩
  iapply (phaseE m K c 6 6 rfl) $$ [s6 HO]
  · (isplitr; iexact Hr; isplitl [s6]; iexact s6; iexact HO)
  iintro ⟨s6, HO⟩
  iapply (phaseE m K c 7 8 rfl) $$ [s7 HO]
  · (isplitr; iexact Hr; isplitl [s7]; iexact s7; iexact HO)
  iintro ⟨s7, HO⟩
  iapply (signal m K c _ 35 (by decide) eI 0 _ rfl rfl (Fin.ext (k0_dev36_eq c)) (by decide) rfl) $$ [HO E0]
  · (isplitr; iexact Hr; isplitl [HO]; iexact HO; isplitl [E0]; iexact E0; unfold payI; iempintro)
  iintro HO
  iapply (signal m K c _ 36 (by decide) eI 1 _ rfl rfl (Fin.ext (k0_dev37_eq c)) (by decide) rfl) $$ [HO E1]
  · (isplitr; iexact Hr; isplitl [HO]; iexact HO; isplitl [E1]; iexact E1; unfold payI; iempintro)
  iintro HO
  iapply (signal m K c _ 37 (by decide) eI 2 _ rfl rfl (Fin.ext (k0_dev38_eq c)) (by decide) rfl) $$ [HO E2]
  · (isplitr; iexact Hr; isplitl [HO]; iexact HO; isplitl [E2]; iexact E2; unfold payI; iempintro)
  iintro HO
  iapply (wait_reg m K c 38 5 eI _ rfl rfl (Nat.le_refl 5) (fun t h => absurd t.isLt (Nat.not_lt.2 h))) $$ [Ec HO Ep]
  · (isplitr; iexact Hr; isplitl [Ec]; iexact Ec; isplitl [HO]; iexact HO; iexact Ep)
  iintro ⟨HO, Ve, -⟩
  imod (close_all m K c) $$ [Hg] with Vg
  · (isplitr; iexact Hr; iexact Hg)
  rw [wp_ret]; imodintro
  iapply Hk
  unfold bodyOut
  isplitr [HO Hx Hy]
  · iapply (chunks_done m c)
    isplitl [Vb]; · iexact Vb
    isplitl [Ve]; · iexact Ve
    isplitr [Vg]
    · iapply (Entails.of_eq (eight _).symm)
      (isplitl [s0]; iexact s0; isplitl [s1]; iexact s1; isplitl [s2]; iexact s2; isplitl [s3]; iexact s3; isplitl [s4]; iexact s4; isplitl [s5]; iexact s5; isplitl [s6]; iexact s6; iexact s7)
    iexact Vg
  (isplitl [HO]; iexact HO; isplitl [Hx]; iexact Hx; iexact Hy)

end Cert.KernelIdealProof

end
-- ==== Proof.KernelIdeal.Launch.lean ====
/-
# The launch, and the run of the eight devices
-/
module

public import proofs.«01_k».proof.Proof.KernelIdeal.Body
public import proofs.«01_k».proof.Proof.Gen.KernelIdeal.Points
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ) (ρ : Dev nD → PrngReg)

def s₀ : MemSt nD τ sig (Elt F) := ⟨m, fun _ => 0, ρ⟩

/-! ## The window's data: what the staging buffers hold, what the body keeps -/

/-- What a device starts with: the records of every cell, and its deal. -/
def start (c : Dev nD) : sProp 𝕄 := iprop(∃ K, recs m K ∗ dealt c)
def Φ₀ (c : Dev nD) : sProp 𝕄 := iprop(start m c ∗ (∃ f, pAt c Finset.univ f) ∗ ∃ f, zAt c Finset.univ f)
/-- What it ends with: every counter at zero, the two buffers filled. -/
def Φ₁ (c : Dev nD) : sProp 𝕄 := iprop((bigSep Finset.univ fun i => val (c, i)) ∗ pAt c Finset.univ (PC m c) ∗ zAt c Finset.univ (ZC m c))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => ystg m c
    | ⟨2, _⟩ => OC m c
  Φ t := match t with
    | ⟨0, _⟩ => Φ₀ m c
    | ⟨_ + 1, _⟩ => Φ₁ m c
  q _ := fullShare
  owed t := match t with
    | ⟨0, _⟩ => owed c 0
    | ⟨_ + 1, _⟩ => 0

abbrev t₀ : Fin cfg0.N := ⟨0, by decide⟩
omit [FloatOps F] in
theorem three (Φ : Fin cfg0.W → sProp 𝕄) : bigSep Finset.univ Φ = iprop(Φ (0 : Fin 3) ∗ Φ (1 : Fin 3) ∗ Φ (2 : Fin 3)) := bigSep_W0 Φ

/-- A staging buffer, whole, with contents equal to `X`. -/
abbrev stg (c : Dev nD) (b : Ref sig .tc) (X : b.ty.Contents (Elt F)) : sProp 𝕄 :=
  iprop(∃ f : Buf (Elt F) ((tcOf c).loc b), ⌜f = X⌝ ∗ ((tcOf c).loc b ↦{fullShare} f))

def pre (c : Dev nD) : sProp 𝕄 :=
  iprop(Φ₀ m c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))
def post (c : Dev nD) : sProp 𝕄 :=
  iprop(Φ₁ m c ∗ (dats m ρ 0 c).owesAt () t₀.succ ∗ stg c cc0_stg0_0 (xstg m c) ∗ stg c cc0_stg1_0 (ystg m c) ∗ stg c cc0_stg2_0 (OC m c))

set_option maxRecDepth 4000 in
/-- What the launch hands the body is what the body needs; -/
theorem pre_in (c : Dev nD) : pre m ρ c ⊢ iprop(∃ K, bodyIn m K c) := by
  unfold pre Φ₀ start
  iintro ⟨⟨⟨%K, #Hr, Hd⟩, Hp, Hz⟩, Ho, ⟨%d0, %g0, %hg0, Hx⟩, ⟨%d1, %g1, %hg1, Hy⟩, ⟨%d2, %g2, %hg2, Hout⟩⟩
  have hx : g0 = xstg m c := by rw [hg0]; unfold Dat.before; rw [if_pos (fetch0_0 t₀)]; rfl
  have hy : g1 = ystg m c := by rw [hg1]; unfold Dat.before; rw [if_pos (fetch0_1 t₀)]; rfl
  subst hx
  subst hy
  unfold Dat.owesAt Pipeline.owesWithin
  icases Ho with ⟨%W, %hW, HO⟩
  iexists K
  unfold bodyIn
  isplitr; · iexact Hr
  isplitl [Hd]; · iexact Hd
  isplitl [HO]
  · unfold Ow; iexists W; iexact HO
  isplitl [Hx]; · iexact Hx
  isplitl [Hy]; · iexact Hy
  isplitl [Hout]
  · iexists g2; unfold oAt; iexact Hout
  isplitl [Hp] <;> iassumption

set_option maxRecDepth 4000 in
/-- and what the body leaves is what the launch takes back. -/
theorem out_post (c : Dev nD) : bodyOut m c ⊢ post m ρ c := by
  unfold bodyOut post Φ₁ Dat.owesAt Pipeline.owesWithin
  rw [show (dats m ρ 0 c).owed t₀.succ = 0 from rfl]
  unfold Ow
  rw [owed_done]
  iintro ⟨⟨Hv, Hp, Hz, Hout⟩, ⟨%W, HO⟩, Hx, Hy⟩
  isplitl [Hv Hp Hz]
  · isplitl [Hv]; · iexact Hv
    isplitl [Hp] <;> iassumption
  isplitl [HO]
  · iexists W
    isplitr; · ipureintro; exact fun _ _ => Or.inl trivial
    iexact HO
  isplitl [Hx]
  · iexists _; isplitr; · (ipureintro; rfl)
    iexact Hx
  isplitl [Hy]
  · iexists _; isplitr; · (ipureintro; rfl)
    iexact Hy
  iexists _; isplitr; · (ipureintro; rfl)
  unfold oAt; iexact Hout

set_option maxRecDepth 40000 in
theorem body_obligation (c : Dev nD) : BodyObligation (dats (F := F) m ρ 0 c) (defs₀ (F := F)) 𝒱₀ () Set.univ := fun t => by
  rw [fin_N0 t]
  rw [three, three]
  simp only [owns_whole_eq]
  show pre m ρ c ⊢ wp frame (wpE (defs₀ (F := F)) 𝒱₀ c none) Set.univ
    (cc0_body xM (Memref.isWhole_whole _) yM (Memref.isWhole_whole _) oM (Memref.isWhole_whole _) pM (Memref.isWhole_whole _) zM (Memref.isWhole_whole _)
          cc0_scratch2 cc0_scratch3 cc0_scratch4 cc0_scratch5 cc0_scratch6 cc0_scratch7 cc0_scratch8 cc0_scratch9 cc0_scratch10 cc0_scratch11 cc0_scratch12) (fun _ => post m ρ c)
  iintro H
  ihave H := (pre_in m ρ c) $$ H
  icases H with ⟨%K, H⟩
  iapply (sound_body m K c fun _ => post m ρ c)
  isplitl [H]; · iexact H
  iintro H
  iapply (out_post m ρ c)
  iexact H

/-! ## The launch's ghost state, and how it is dealt -/

theorem ownSemFacts : Pipeline.OwnSemFacts cfg0.spec osem := by decide
theorem share_eq (c : Dev nD) (w : Fin cfg0.W) : (dats m ρ 0 c).share w = fullShare := by unfold Dat.share; split <;> rfl

def allCells : Finset (GSem nD τ sig) := Finset.univ.map ⟨kcell, kcell_inj⟩
def payOf (x : (Dev nD × CI) × Fin 3) : GSem nD τ sig × ℕ × Fin 3 := (kcell x.1, 0, x.2)
theorem payOf_inj : Function.Injective payOf := by
  rintro ⟨p, d⟩ ⟨p', d'⟩ h
  have h1 : p = p' := kcell_inj (congrArg (fun y : GSem nD τ sig × ℕ × Fin 3 => y.1) h)
  have h2 : d = d' := congrArg (fun y : GSem nD τ sig × ℕ × Fin 3 => y.2.2) h
  rw [h1, h2]
def allPays : Finset (GSem nD τ sig × ℕ × Fin 3) := Finset.univ.map ⟨payOf, payOf_inj⟩

def u₀ : UU := (initOf (Pipeline.cells cfgs cellOf_inj) (Pipeline.launchToks cfgs cellOf_inj), initOf allCells allPays)

/-- What the launch deals a device: its own cells' states, places and payments. -/
def G (c : Dev nD) : sProp 𝕄 :=
  iprop((bigSep Finset.univ fun i : CI => roundState ER (rd m) (kcell (c, i)) 0) ∗ (bigSep Finset.univ fun i : CI => reached ER (kcell (c, i)) 0)
    ∗ (bigSep Finset.univ fun i : CI => pos (c, i)) ∗ bigSep Finset.univ fun q : CI × Fin 3 => tok (c, q.1) q.2)
/-- What it holds once the cells are shared and the payments handed to those who make them. -/
def G' (c : Dev nD) : sProp 𝕄 :=
  iprop(∃ K : Dev nD × CI → ℕ, (bigSep Finset.univ fun p : Dev nD × CI => iprop(cellInv ER (rd m) (K p) (kcell p) ∗ reached ER (kcell p) 0))
    ∗ (bigSep Finset.univ fun i : CI => pos (c, i)) ∗ bigSep Finset.univ fun q : CI × Fin 3 => tok (nb q c, q.1) q.2)

omit [FloatOps F] in
theorem over_cells (Φ : GSem nD τ sig → sProp 𝕄) :
    bigSep allCells Φ = bigSep Finset.univ fun c : Dev nD => bigSep Finset.univ fun i : CI => Φ (kcell (c, i)) := by
  unfold allCells; rw [bigSep_map, bigSep_univ_prod]; rfl
omit [FloatOps F] in
theorem over_pays : (bigSep allPays fun x => (dutyTok ER x.1 x.2.1 x.2.2 : sProp 𝕄))
    = bigSep Finset.univ fun c : Dev nD => bigSep Finset.univ fun q : CI × Fin 3 => tok (c, q.1) q.2 := by
  unfold allPays
  rw [bigSep_map, bigSep_univ_equiv (Equiv.prodAssoc (Dev nD) CI (Fin 3)).symm, bigSep_univ_prod]
  rfl

theorem fund_all : BI.own (ER (initOf allCells allPays)) ⊢ (|==> bigSep Finset.univ (G m) : sProp 𝕄) := by
  iintro HX
  imod (Rounds.fund ER (rd m) allCells allPays) $$ HX with ⟨Hst, Hr, Hat, Htok⟩
  imodintro
  ihave Hst := (Entails.of_eq (over_cells fun g => roundState ER (rd m) g 0)) $$ Hst
  ihave Hat := (Entails.of_eq (over_cells (F := F) fun g => atPos ER g 0 ∅ 0)) $$ Hat
  ihave Hr := (Entails.of_eq (over_cells (F := F) fun g => reached ER g 0)) $$ Hr
  ihave Htok := (Entails.of_eq (over_pays (F := F))) $$ Htok
  unfold G; simp only [bigSep_sep']
  isplitl [Hst]; · iexact Hst
  isplitl [Hr]; · iexact Hr
  isplitl [Hat] <;> iassumption

omit [FloatOps F] in
theorem bar_counter (c : Dev nD) : (unscopedSems0 c : sProp 𝕄) = val (c, bI) := by
  unfold unscopedSems0; rw [bigSep_eq_bigSepL_of_eq [SemLoc.reg barS] (by decide) (by decide)]; rfl

omit [FloatOps F] in
/-- A device's counters are the barrier's and its own. -/
theorem counters (c : Dev nD) :
    (bigSep Finset.univ fun i : CI => val (c, i) : sProp 𝕄)
      = iprop(unscopedSems0 c ∗ Pipeline.ownSems0 (Ix := Unit) (Name := ℕ) (U := UU) (Lvl := ℕ) (Val := Elt F) (τ := τ) osem c) := by
  rw [bar_counter, bigSep_univ_sum, show (Finset.univ : Finset Unit) = {()} from rfl, bigSep_singleton]
  rfl

theorem cells_alloc (c : Dev nD) :
    iprop((bigSep Finset.univ fun i : CI => val (c, i)) ∗ bigSep Finset.univ fun i : CI => roundState ER (rd m) (kcell (c, i)) 0)
      ⊢ (|={Set.univ}=> bigSep Finset.univ fun i : CI => iprop(∃ κ : ℕ, cellInv ER (rd m) κ (kcell (c, i))) : sProp 𝕄) := by
  rw [← bigSep_sep']
  exact (bigSep_mono fun i _ => (Rounds.body_intro ER (rd m) (kcell (c, i))).trans inv_alloc).trans (bigSep_fupd _ _)

/-- A device after its cells are shared. -/
def G₁ (c : Dev nD) : sProp 𝕄 :=
  iprop((bigSep Finset.univ fun i : CI => iprop(∃ κ : ℕ, cellInv ER (rd m) κ (kcell (c, i)))) ∗ (bigSep Finset.univ fun i : CI => reached ER (kcell (c, i)) 0)
    ∗ (bigSep Finset.univ fun i : CI => pos (c, i)) ∗ bigSep Finset.univ fun q : CI × Fin 3 => tok (c, q.1) q.2)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> G₁ m c := by
  unfold G G₁
  iintro ⟨Hos, Hus, Hst, Hr, Hat, Htok⟩
  ihave Hv := (Entails.of_eq (counters (F := F) c).symm) $$ [Hos Hus]
  · isplitl [Hus] <;> iassumption
  imod (cells_alloc m c) $$ [Hv Hst] with Hinv
  · isplitl [Hv] <;> iassumption
  imodintro
  isplitl [Hinv]; · iexact Hinv
  isplitl [Hr]; · iexact Hr
  isplitl [Hat] <;> iassumption

omit [FloatOps F] in
/-- The payments, each to the device that makes it. -/
theorem pays_around :
    (bigSep Finset.univ fun c : Dev nD => bigSep Finset.univ fun q : CI × Fin 3 => (tok (c, q.1) q.2 : sProp 𝕄))
      = bigSep Finset.univ fun c : Dev nD => bigSep Finset.univ fun q : CI × Fin 3 => tok (nb q c, q.1) q.2 := by
  rw [bigSep_univ_comm, bigSep_univ_comm (fun c : Dev nD => fun q : CI × Fin 3 => (tok (nb q c, q.1) q.2 : sProp 𝕄))]
  exact bigSep_congr fun q _ => bigSep_univ_equiv (nbE q) fun c : Dev nD => (tok (c, q.1) q.2 : sProp 𝕄)

omit [FloatOps F] in
theorem each_with {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

theorem shared_intro (K : Dev nD × CI → ℕ) (c : Dev nD) :
    iprop((bigSep Finset.univ fun p : Dev nD × CI => iprop(cellInv ER (rd m) (K p) (kcell p) ∗ reached ER (kcell p) 0))
      ∗ ((bigSep Finset.univ fun i : CI => pos (c, i)) ∗ bigSep Finset.univ fun q : CI × Fin 3 => tok (nb q c, q.1) q.2)) ⊢ G' m c := by
  unfold G'
  iintro ⟨#HI, Hat, Htok⟩
  iexists K
  isplitr; · iexact HI
  isplitl [Hat] <;> iassumption

theorem regroup : (bigSep Finset.univ (G₁ m) : sProp 𝕄) ⊢ bigSep Finset.univ (G' m) := by
  unfold G₁
  rw [bigSep_sep', bigSep_sep', bigSep_sep', pays_around,
    ← bigSep_univ_prod (fun p : Dev nD × CI => iprop(∃ κ : ℕ, cellInv ER (rd m) κ (kcell p))),
    ← bigSep_univ_prod (fun p : Dev nD × CI => (reached ER (kcell p) 0 : sProp 𝕄))]
  iintro ⟨HI, #HR, Hat, Htok⟩
  ihave HK := (BI.bigSep_exists_pi Finset.univ (fun (p : Dev nD × CI) (κ : ℕ) => (cellInv ER (rd m) κ (kcell p) : sProp 𝕄))) $$ HI
  icases HK with ⟨%K, #HI⟩
  iapply (each_with fun c => shared_intro m K c)
  isplitr
  · iapply (Entails.of_eq (bigSep_sep' Finset.univ (fun p : Dev nD × CI => (cellInv ER (rd m) (K p) (kcell p) : sProp 𝕄)) (fun p => reached ER (kcell p) 0)).symm)
    isplitl; · iexact HI
    iexact HR
  iapply (Entails.of_eq (bigSep_sep' Finset.univ (fun c : Dev nD => (bigSep Finset.univ fun i : CI => (pos (c, i) : sProp 𝕄)))
    (fun c => bigSep Finset.univ fun q : CI × Fin 3 => tok (nb q c, q.1) q.2)).symm)
  isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

omit [FloatOps F] in
/-- The launch's credit is, payment by payment, what the device is to be sent. -/
theorem creds (c : Dev nD) : (Pipeline.launchCred (fun d => owed d 0) c : sProp 𝕄)
    ⊢ bigSep (Finset.Ico 0 38) fun t => cred (tallyAt (kcell (c, (atm t).1)) () (amountI (atm t).1)) := by
  have h : (Pipeline.launchCred (fun d => owed d 0) c : sProp 𝕄) = bigSep (Finset.Ico 0 38) fun t => Pipeline.launchCred (fun d => duesT d t) c :=
    Pipeline.launchCred_sum (Finset.Ico 0 38) (fun t d => duesT d t) c
  rw [h]
  exact bigSep_mono fun t _ => Pipeline.launchCred_tallyAt (csem (atm t).1) (nb (atm t)) (nb (atm t)) (nb_nb (atm t)) (nb_nb (atm t)) () (amountI (atm t).1) c

/-! ## The run -/

theorem start_intro (c : Dev nD) :
    iprop(Pipeline.unscopedRestP Pipeline.Prefetch.none cfg0.spec c (fun b => m ((c : Thread nD τ).loc b)) ∗ levAts L lv
        ∗ Pipeline.launchCred (fun d => owed d 0) c ∗ prngReg c (ρ c) ∗ G' m c)
      ⊢ |={Set.univ}=> iprop(start m c ∗ emp) := by
  unfold G' start recs dealt
  iintro ⟨-, #Hlev, Hcr, -, ⟨%K, #HI, Hat, Htok⟩⟩
  ihave Hc := (creds (F := F) c) $$ Hcr
  imodintro
  isplitl
  · iexists K
    isplitr
    · isplitl; · iexact HI
      iexact Hlev
    isplitl [Hat]; · iexact Hat
    isplitl [Htok] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ pAt zAt
  iintro ⟨Hs, -, Hp, Hz⟩
  isplitl [Hs]; · iexact Hs
  isplitl [Hp] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m c from rfl, scopedRest0_eq]
  unfold Φ₁ pAt zAt
  rw [counters]
  iintro ⟨⟨Hu, Ho⟩, Hp, Hz⟩
  isplitl [Hu]; · iexact Hu
  isplitl [Ho]; · iexact Ho
  isplitl [Hp]
  · iexists _; iexact Hp
  iexists _; iexact Hz

theorem stage_level (q : DmaSem sig) (h : q.val < 3) : idx? (SemLoc.dma q) = none := by
  unfold idx?
  rw [List.find?_eq_none]
  rintro (⟨⟩ | ⟨⟨⟩ | p⟩) - hi
  · exact absurd (of_decide_eq_true hi) (fun e => by cases e)
  · exact absurd (of_decide_eq_true hi) (fun e => by cases e)
  · have e : dsem p = q := SemLoc.dma.inj (of_decide_eq_true hi)
    have e' : 3 + 8 * p.1.val + p.2.val = q.val := congrArg Fin.val e
    omega

theorem stage_small : ∀ (w : Fin cfg0.W) (s : Fin (cfg0.win w).nbuf), ((cfg0.win w).sem s).val < 3 := by decide

theorem waits (c : Dev nD) : (levAts L lv : sProp 𝕄) ⊢ Pipeline.cellsWaits cfgs (dats m ρ) () 0 c :=
  Pipeline.cellsWaits_intro cfgs (dats m ρ) () 0 c fun w s t => by
    have hl : lv (tcOf c, SemLoc.dma ((cfg0.win w).sem s)) () ≤ 0 := by
      unfold lv; rw [stage_level _ (stage_small w s)]; exact Nat.le_refl 0
    rcases t with ⟨_ | _, ht⟩
    · exact may_wait c _ 0 0 hl fun t _ => lv_pos t
    · show _ ⊢ MayWait (tcOf c) _ () 0
      rw [MayWait_zero]; iintro -; iempintro

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 40000 in
/-- From any memory with zero counters, every weakly fair execution of the eight devices ends, with each window's array at
    the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => owed d 0) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The two arguments are as they were; the result is what the body left. -/
theorem final_x (c : Dev nD) : finalA m ρ c (0 : Fin 3) = (s₀ m ρ).mem (win0_0.arr.view.loc (c : Thread nD τ)) :=
  (dats (F := F) m ρ 0 c).arrAt_in (0 : Fin 3) rfl _
theorem final_y (c : Dev nD) : finalA m ρ c (1 : Fin 3) = (s₀ m ρ).mem (win0_1.arr.view.loc (c : Thread nD τ)) :=
  (dats (F := F) m ρ 0 c).arrAt_in (1 : Fin 3) rfl _

end Cert.KernelIdealProof

end
-- ==== Proof.KernelIdeal.Value.lean ====
/-
# What the kernel computes, as sums
-/
module

public import proofs.«01_k».proof.Proof.KernelIdeal.Launch
public import Idealize.ShloMosaic.Lib.Pointwise
public import Idealize.ShloMosaic.Lib.Pipeline.ValueKit
public import Idealize.ShloMosaic.PureOps.Ideal
public import Idealize.ShloMosaic.Lib.Layout

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable (m : (ℓ : Loc nD τ sig) → Buf (Elt Ideal) ℓ)

/-! ## The products the body stores, at an index -/

theorem first_apply (x : Vec Ideal S1024x1024 .f32) (y : Vec Ideal S1024x128 .f32) (j : S1024x128.Idx) :
    k0_pay2 x y j = ∑ k : Fin 1024, x (ix2 k (j 0)) * y (ix2 k (j 1)) := by
  pointwise [k0_pay2, k0_pay1]
theorem second_apply (x : Vec Ideal S1024x1024 .f32) (y : Vec Ideal S1024x128 .f32) (j : S1024x128.Idx) :
    k0_pay3 (k0_pay1 x) y j = ∑ k : Fin 1024, x (ix2 k (j 0)) * y (ix2 k (j 1)) := by
  pointwise [k0_pay3, k0_pay1]
theorem third_apply (x : Vec Ideal S1024x1024 .f32) (y : Vec Ideal S1024x256 .f32) (j : S1024x256.Idx) :
    k0_pay5 (k0_pay4 (k0_pay1 x) y) j = ∑ k : Fin 1024, x (ix2 k (j 0)) * y (ix2 k (j 1)) := by
  pointwise [k0_pay5, k0_pay4, k0_pay1]
theorem fourth_apply (x : Vec Ideal S1024x1024 .f32) (y : Vec Ideal S1024x512 .f32) (j : S1024x512.Idx) :
    k0_pay7 (k0_pay6 (k0_pay1 x) y) j = ∑ k : Fin 1024, x (ix2 k (j 0)) * y (ix2 k (j 1)) := by
  pointwise [k0_pay7, k0_pay6, k0_pay1]

/-! ## The staged operands are the arguments -/

/-- The arguments of device `c`. -/
def xArg (c : Dev nD) : Vec Ideal S1024x1024 .f32 := m ((c : Thread nD τ).loc main_arg0)
def yArg (c : Dev nD) : Vec Ideal S1024x4096 .f32 := m ((c : Thread nD τ).loc main_arg1)

theorem xstg_apply (c : Dev nD) (i : S1024x1024.Idx) : xstg m c i = xArg m c i := by
  show m ((c : Thread nD τ).loc main_arg0) ((win0_0.blk (0 : Fin 1)).view.emb i) = m ((c : Thread nD τ).loc main_arg0) i
  blk_ext
  · show 0 * 1024 + _ = _; omega
  · show 0 * 1024 + _ = _; omega
theorem ystg_apply (c : Dev nD) (i : S1024x4096.Idx) : ystg m c i = yArg m c i := by
  show m ((c : Thread nD τ).loc main_arg1) ((win0_1.blk (0 : Fin 1)).view.emb i) = m ((c : Thread nD τ).loc main_arg1) i
  blk_ext
  · show 0 * 1024 + _ = _; omega
  · show 0 * 4096 + _ = _; omega

/-- A block of columns of the second operand. -/
theorem columns (Y : (cc0_stg1_0 : Ref sig .tc).ty.Contents (Elt Ideal)) (n o : ℕ) (off : Fin 2 → ℕ) (ho : off = ![0, o])
    (h : ∀ a, off a + (![1024, n] : Fin 2 → ℕ) a ≤ S1024x4096.size a) (k : Fin 1024) (b : Fin n) (hb : o + b.val < 4096) :
    yM.view.readAt (Elt Ideal) (Rect.unit (s := S1024x4096) off ![1024, n] h).toLoadRect Y (ix2 k b) = Y (ix2 k (⟨o + b.val, hb⟩ : Fin 4096)) := by
  subst ho
  show Y ((Rect.unit (s := S1024x4096) ![0, o] ![1024, n] h).emb (ix2 k b)) = _
  refine congrArg Y (funext fun a => Fin.ext ?_)
  match a with
  | ⟨0, _⟩ => exact (by rw [Nat.one_mul, Nat.zero_add] : 0 + 1 * k.val = k.val)
  | ⟨1, _⟩ => exact (by rw [Nat.one_mul] : o + 1 * b.val = o + b.val)

/-- Column `b` of the quadrant of device `c`. -/
def colOf (c : Dev nD) (b : Fin 1024) : Fin 4096 := ⟨1024 * (qq c).val + b.val, by have := (qq c).isLt; omega⟩

/-- The sum of products over the rows of device `c`. -/
def dotOf (c : Dev nD) (a : Fin 1024) (b : Fin 1024) : EReal :=
  ∑ k : Fin 1024, xArg m c (ix2 k a) * yArg m c (ix2 k (colOf c b))

theorem start_col : ∀ c : Dev nD, 2048 * (c.val / 4) + 1024 * (c.val / 2 % 2) = 1024 * (qq c).val := by decide

/-- A stored block of columns is the sums at those columns. -/
theorem block_dot (c : Dev nD) (n o : ℕ) (off : Fin 2 → ℕ) (ho : off = ![0, 1024 * (qq c).val + o])
    (h : ∀ a, off a + (![1024, n] : Fin 2 → ℕ) a ≤ S1024x4096.size a) (a : Fin 1024) (b : Fin n) (hb : o + b.val < 1024)
    {X : Vec Ideal S1024x1024 .f32} {Y : Vec Ideal ⟨2, ![1024, n]⟩ .f32} (hX : X = xstg m c)
    (hY : Y = yM.view.readAt (Elt Ideal) (Rect.unit (s := S1024x4096) off ![1024, n] h).toLoadRect (ystg m c)) :
    (∑ k : Fin 1024, X (ix2 k a) * Y (ix2 k b))
      = dotOf m c a ⟨o + b.val, hb⟩ := by
  subst hX hY
  unfold dotOf
  refine Finset.sum_congr rfl fun k _ => ?_
  rw [columns (ystg m c) n _ off ho h k b (by have := (qq c).isLt; omega), xstg_apply, ystg_apply]
  exact congrArg (fun z : Fin 4096 => xArg m c (ix2 k a) * yArg m c (ix2 k z)) (Fin.ext (Nat.add_assoc _ _ _))

theorem PC_apply (c : Dev nD) (i : S1024x1024.Idx) : PC m c i = dotOf m c (i 0) (i 1) := by
  have hi : (i 1).val < 1024 := (i 1).isLt
  unfold PC
  split
  · rename_i h1
    unfold w0
    rw [first_apply]
    refine (block_dot m c 128 0 _ ((k0_off1_eq c 0).trans (by rw [← start_col]; rfl)) _ (i 0) ⟨(i 1).val, h1⟩ (by show 0 + (i 1).val < 1024; omega) rfl rfl).trans ?_
    exact congrArg (dotOf m c (i 0)) (Fin.ext (Nat.zero_add _))
  · split
    · unfold w1
      rw [second_apply]
      refine (block_dot m c 128 128 _ ((k0_off1_eq c 1).trans (by rw [← start_col]; rfl)) _ (i 0) ⟨(i 1).val - 128, by omega⟩ (by show 128 + ((i 1).val - 128) < 1024; omega) rfl rfl).trans ?_
      exact congrArg (dotOf m c (i 0)) (Fin.ext (by show 128 + ((i 1).val - 128) = _; omega))
    · split
      · unfold w2
        rw [third_apply]
        refine (block_dot m c 256 256 _ ((k0_off4_eq c).trans (by rw [← start_col])) _ (i 0) ⟨(i 1).val - 256, by omega⟩ (by show 256 + ((i 1).val - 256) < 1024; omega) rfl rfl).trans ?_
        exact congrArg (dotOf m c (i 0)) (Fin.ext (by show 256 + ((i 1).val - 256) = _; omega))
      · unfold w3
        rw [fourth_apply]
        refine (block_dot m c 512 512 _ ((k0_off7_eq c).trans (by rw [← start_col])) _ (i 0) ⟨(i 1).val - 512, by omega⟩ (by show 512 + ((i 1).val - 512) < 1024; omega) rfl rfl).trans ?_
        exact congrArg (dotOf m c (i 0)) (Fin.ext (by show 512 + ((i 1).val - 512) = _; omega))

/-! ## The result -/

/-- The device of the quadrant of column `b` that keeps half `r`. -/
def holder (r : Fin 2) (b : Fin 4096) : Dev nD := dv ⟨b.val / 1024, by omega⟩ r
theorem OC_apply (c : Dev nD) (i : S512x4096.Idx) :
    OC m c i = dotOf m (holder (zz c) (i 1)) (⟨512 * (zz c).val + (i 0).val, by have := (zz c).isLt; have : (i 0).val < 512 := (i 0).isLt; omega⟩) ⟨(i 1).val % 1024, by omega⟩
      + dotOf m (zp (holder (zz c) (i 1))) (⟨512 * (zz c).val + (i 0).val, by have := (zz c).isLt; have : (i 0).val < 512 := (i 0).isLt; omega⟩) ⟨(i 1).val % 1024, by omega⟩ := by
  unfold OC OCr
  rw [PC_apply, PC_apply]
  rfl

/-- The result's array at the end is what the body left. -/
theorem final_out (ρ : Dev nD → PrngReg) (c : Dev nD) : finalA m ρ c (2 : Fin 3) = OC m c := by
  refine (dats m ρ 0 c).arrAt_eq_of_after_last 2 t₀ (by decide +kernel) _ fun j => ?_
  blk_simp
  rfl

/-! ## Blocks of the whole arrays -/

theorem zcoord : ∀ c : Dev nD, Layout.meshLin [2, 2, 2] c.val [2] = (zz c).val := by decide

/-- What device `c` holds of an array cut along its rows between the two devices of a pair. -/
theorem rows_apply {α : Type} (n w N : ℕ) (c : Dev nD) (v : (⟨2, ![N, w]⟩ : Shape).Idx → α)
    (h : Layout.TilesN ⟨2, ![n, w]⟩ ⟨2, ![N, w]⟩ fun b => Layout.cutSize [2, 2, 2] ((![[2], []] : Fin 2 → List ℕ) b))
    (i : (⟨2, ![n, w]⟩ : Shape).Idx) (hb : n * (zz c).val + (i 0).val < N) :
    Layout.blockN ⟨2, ![n, w]⟩ ⟨2, ![N, w]⟩ (Layout.meshBlock [2, 2, 2] ![[2], []] c) v h i = v (ix2 (⟨n * (zz c).val + (i 0).val, hb⟩ : Fin N) (i 1)) := by
  rw [Layout.blockN_apply]
  refine congrArg v (funext fun a => Fin.ext ?_)
  rw [Layout.TilesN.idx_val]
  match a with
  | ⟨0, _⟩ =>
    show Layout.meshLin [2, 2, 2] c.val [2] * n + (i 0).val = n * (zz c).val + (i 0).val
    rw [zcoord, Nat.mul_comm]
  | ⟨1, _⟩ =>
    show 0 * w + (i 1).val = (i 1).val
    rw [Nat.zero_mul, Nat.zero_add]

theorem zz_dv : ∀ q r, zz (dv q r) = r := by decide
theorem qq_dv : ∀ q r, qq (dv q r) = q := by decide
theorem two_halves : ∀ c : Dev nD, (zz c = 0 ∧ zz (zp c) = 1) ∨ (zz c = 1 ∧ zz (zp c) = 0) := by decide

theorem col_back (b : Fin 4096) (r : Fin 2) : colOf (holder r b) ⟨b.val % 1024, by omega⟩ = b := by
  unfold colOf holder
  refine Fin.ext ?_
  show 1024 * (qq (dv ⟨b.val / 1024, _⟩ r)).val + b.val % 1024 = b.val
  rw [qq_dv]
  exact Nat.div_add_mod b.val 1024

theorem col_partner (c : Dev nD) (b : Fin 1024) : colOf (zp c) b = colOf c b := by
  unfold colOf
  refine Fin.ext ?_
  show 1024 * (qq (zp c)).val + b.val = 1024 * (qq c).val + b.val
  rw [qq_zp]

/-- Device `c`'s rows of the left array. -/
def blockX (X : (⟨2, ![2048, 1024]⟩ : Shape).Idx → EReal) (c : Dev nD) : (⟨2, ![1024, 1024]⟩ : Shape).Idx → EReal :=
  Layout.blockN ⟨2, ![1024, 1024]⟩ ⟨2, ![2048, 1024]⟩ (Layout.meshBlock [2, 2, 2] ![[2], []] c) X

/-- Device `c`'s rows of the right array. -/
def blockY (Y : (⟨2, ![2048, 4096]⟩ : Shape).Idx → EReal) (c : Dev nD) : (⟨2, ![1024, 4096]⟩ : Shape).Idx → EReal :=
  Layout.blockN ⟨2, ![1024, 4096]⟩ ⟨2, ![2048, 4096]⟩ (Layout.meshBlock [2, 2, 2] ![[2], []] c) Y

section Whole
variable (X : (⟨2, ![2048, 1024]⟩ : Shape).Idx → EReal) (Y : (⟨2, ![2048, 4096]⟩ : Shape).Idx → EReal)

/-- The product of the whole arrays, transposed on the left. -/
def whole : S1024x4096.Idx → EReal := fun i => ∑ k : Fin 2048, X (ix2 k (i 0)) * Y (ix2 k (i 1))

/-- The part of it over one half of the rows. -/
def part (r : Fin 2) (a : Fin 1024) (b : Fin 4096) : EReal :=
  ∑ k : Fin 1024, X (ix2 (⟨1024 * r.val + k.val, by omega⟩ : Fin 2048) a) * Y (ix2 (⟨1024 * r.val + k.val, by omega⟩ : Fin 2048) b)

theorem whole_eq (i : S1024x4096.Idx) : whole X Y i = part X Y 0 (i 0) (i 1) + part X Y 1 (i 0) (i 1) := by
  unfold whole part
  rw [show (∑ k : Fin 2048, X (ix2 k (i 0)) * Y (ix2 k (i 1))) = ∑ k : Fin (1024 + 1024), X (ix2 k (i 0)) * Y (ix2 k (i 1)) from rfl, Fin.sum_univ_add]
  congr 1

variable (hX : ∀ c : Dev nD, xArg m c = blockX X c)
variable (hY : ∀ c : Dev nD, yArg m c = blockY Y c)
include hX hY

theorem dotOf_part (c : Dev nD) (a : Fin 1024) (b : Fin 1024) : dotOf m c a b = part X Y (zz c) a (colOf c b) := by
  unfold dotOf part
  refine Finset.sum_congr rfl fun k _ => ?_
  rw [hX, hY, blockX, blockY, rows_apply 1024 1024 2048 c X _ (ix2 k a) (by show 1024 * (zz c).val + k.val < 2048; omega),
    rows_apply 1024 4096 2048 c Y _ (ix2 k (colOf c b)) (by show 1024 * (zz c).val + k.val < 2048; omega)]
  rfl

/-- The products of a pair add up to the product over all the rows. -/
theorem pair_sum (r : Fin 2) (a : Fin 1024) (b : Fin 4096) :
    dotOf m (holder r b) a ⟨b.val % 1024, by omega⟩ + dotOf m (zp (holder r b)) a ⟨b.val % 1024, by omega⟩ = part X Y 0 a b + part X Y 1 a b := by
  rw [dotOf_part m X Y hX hY, dotOf_part m X Y hX hY, col_partner, col_back]
  rcases two_halves (holder r b) with ⟨h0, h1⟩ | ⟨h0, h1⟩
  · rw [h0, h1]
  · rw [h0, h1]
    exact add_comm _ _

/-- Every device ends with its rows of the whole product. -/
theorem out_block (c : Dev nD) :
    OC m c = Layout.blockN ⟨2, ![512, 4096]⟩ ⟨2, ![1024, 4096]⟩ (Layout.meshBlock [2, 2, 2] ![[2], []] c) (whole X Y) := by
  funext i
  have hi : (i 0).val < 512 := (i 0).isLt
  rw [OC_apply, rows_apply 512 4096 1024 c (whole X Y) _ i (by omega), whole_eq]
  exact pair_sum m X Y hX hY (zz c) _ (i 1)

end Whole

end Cert.KernelIdealProof

end
-- ==== Proof.lean ====
/-
# The certificate's claims

The frames of the kernel and of its ideal reading come from the run of the launch (`Kernel/Launch.lean`,
`KernelIdeal/Launch.lean`); the equality with the reference from the value of the result (`KernelIdeal/Value.lean`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Lib.Claim
public import Idealize.ShloMosaic.Lib.Pointwise
public import Idealize.ShloMosaic.Lib.StableHlo.RunHlo
public import Idealize.ShloMosaic.Lib.Claim
public import Idealize.ShloMosaic.Lib.Pointwise
public import Idealize.ShloMosaic.Lib.StableHlo.RunHlo
public import proofs.«01_k».proof.Proof.Kernel.Launch
public import proofs.«01_k».proof.Proof.KernelIdeal.Value
public import Idealize.ShloMosaic.Lib.Claim
public import Idealize.ShloMosaic.Lib.Pointwise
public import Idealize.ShloMosaic.Lib.StableHlo.RunHlo
public import Idealize.ShloMosaic.Adequacy
public import Idealize.ShloMosaic.Init

@[expose] public section

noncomputable section

namespace Cert.Proof

open Idealize.ShloMosaic Idealize.SL.Sem

/-- Every run of the kernel ends, with both arguments as they were and every counter at zero. -/
theorem frame_kernel : Cert.quiescent_Kernel := fun m g _ =>
  (θ_run Cert.Kernel.defs _ _).mono
    (fun _ h => ⟨fun c => ⟨(h.1 c (0 : Fin 3)).trans (Cert.KernelProof.final_x m g c), (h.1 c (1 : Fin 3)).trans (Cert.KernelProof.final_y m g c)⟩, h.2⟩)
    (Cert.KernelProof.run_main (F := Bits) m g)

/-- So does every run of its ideal reading. -/
theorem frame_ideal : Cert.quiescent_KernelIdeal := fun m g _ =>
  (θ_run Cert.KernelIdeal.defs _ _).mono
    (fun _ h => ⟨fun c => ⟨(h.1 c (0 : Fin 3)).trans (Cert.KernelIdealProof.final_x m g c), (h.1 c (1 : Fin 3)).trans (Cert.KernelIdealProof.final_y m g c)⟩, h.2⟩)
    (Cert.KernelIdealProof.run_main (F := Ideal) m g)

/-- And every run of the reference, which has no counter. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The reference's product, entry by entry. -/
theorem reference_value (X : FVec Ideal Cert.ReferenceIdeal.S2048x1024 .f32) (Y : FVec Ideal Cert.ReferenceIdeal.S2048x4096 .f32) :
    Host.dotGeneral (F := Ideal) Cert.ReferenceIdeal.dot_S1024x2048_S2048x4096_S1024x4096_1_0_0_1_n_n none
        (transpose Cert.ReferenceIdeal.S1024x2048 [1, 0] X Cert.ReferenceIdeal.Gen.facts.transposes_S2048x1024_S1024x2048_1_0) Y
      = Cert.KernelIdealProof.whole X Y := by
  funext i
  pointwise [Cert.KernelIdealProof.whole]

/-- From devices that hold their blocks of the reference's arguments, each ends with its block of the reference's result. -/
theorem agrees : Cert.algebraic_KernelIdeal_ReferenceIdeal := fun m g m' g' _ hag =>
  ⟨Cert.KernelIdealProof.whole (m' (((0 : Dev Cert.ReferenceIdeal.nD).tc : Thread _ Cert.ReferenceIdeal.τ).loc Cert.ReferenceIdeal.main_arg0)) (m' (((0 : Dev Cert.ReferenceIdeal.nD).tc : Thread _ Cert.ReferenceIdeal.τ).loc Cert.ReferenceIdeal.main_arg1)),
    (θ_run Cert.KernelIdeal.defs _ _).mono
      (fun _ h c => ⟨(h.1 c (2 : Fin 3)).trans ((Cert.KernelIdealProof.final_out m g c).trans
          (Cert.KernelIdealProof.out_block m _ _ (fun c => (hag c).1) (fun c => (hag c).2) c)),
        (h.1 c (0 : Fin 3)).trans (Cert.KernelIdealProof.final_x m g c), (h.1 c (1 : Fin 3)).trans (Cert.KernelIdealProof.final_y m g c)⟩)
      (Cert.KernelIdealProof.run_main (F := Ideal) m g),
    (θ_run Cert.ReferenceIdeal.defs _ _).mono (fun _ h => ⟨(h 0).1.trans (reference_value _ _), (h 0).2⟩)
      (Cert.ReferenceIdeal.Value.run (F := Ideal) m' g')⟩

theorem claim : Cert.Claim :=
  ⟨Cert.Kernel.Gen.facts, Cert.KernelIdeal.Gen.facts, Cert.ReferenceIdeal.Gen.facts,
    frame_kernel, frame_ideal, frame_reference, trivial, agrees⟩

end Cert.Proof

end
